-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 2048, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 2048, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x4x2048x64 : Shape := ⟨4, ![2, 4, 2048, 64]⟩
abbrev S7 : Shape := ⟨1, ![7]⟩
abbrev S2x4x256x64 : Shape := ⟨4, ![2, 4, 256, 64]⟩
abbrev S_ : Shape := ⟨0, ![]⟩
abbrev S1 : Shape := ⟨1, ![1]⟩
abbrev S256x2048 : Shape := ⟨2, ![256, 2048]⟩
abbrev S1x256x512 : Shape := ⟨3, ![1, 256, 512]⟩
abbrev S256x256 : Shape := ⟨2, ![256, 256]⟩
abbrev S256x4x64 : Shape := ⟨3, ![256, 4, 64]⟩
abbrev S256x1x64 : Shape := ⟨3, ![256, 1, 64]⟩
abbrev S256x64 : Shape := ⟨2, ![256, 64]⟩
abbrev S1x1x2048x64 : Shape := ⟨4, ![1, 1, 2048, 64]⟩
abbrev S2048x64 : Shape := ⟨2, ![2048, 64]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .f32⟩
  | .local _ .vmem, ⟨6, _⟩ => ⟨S2x4x2048x64, .bf16⟩
  | .local _ .vmem, ⟨7, _⟩ => ⟨S2x4x2048x64, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_off1 (d0 : Dev nD) : Fin 4 → Nat :=
  let c0_12 : Index := 0#32
  let c0_13 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v14 : BitVec 32 := Scalar.muli v2 c256_i32
  let v15 : Index := Scalar.indexCast v14
  let c0_14 : Index := 0#32
  ![0, 0, v15.toNat, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_20 : BitVec 32 := 1#32
  let v25 : BitVec 32 := Scalar.muli v5 c1_i32_20
  let v26 : BitVec 32 := Scalar.addi c0_i32 v25
  v26.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_22 : BitVec 32 := 1#32
  let v27 : BitVec 32 := Scalar.muli v7 c1_i32_22
  let v28 : BitVec 32 := Scalar.addi c0_i32_23 v27
  v28.toNat
def k0_off2 (d0 : Dev nD) (c0_i32_25 : BitVec 32) : Fin 4 → Nat :=
  let c0_i32_32 : BitVec 32 := 0#32
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_24 : BitVec 32 := 8#32
  let v29 : BitVec 32 := Scalar.addi v2 c8_i32_24
  let v30 : BitVec 32 := Scalar.subi v29 c0_i32_25
  let c8_i32_26 : BitVec 32 := 8#32
  let v31 : BitVec 32 := Scalar.remsi v30 c8_i32_26
  let c256_i32_27 : BitVec 32 := 256#32
  let v32 : BitVec 32 := Scalar.muli v31 c256_i32_27
  let c0_i32_34 : BitVec 32 := 0#32
  ![0, 0, v32.toNat, 0]
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_30 : BitVec 32 := 1#32
  let v33 : BitVec 32 := Scalar.muli v7 c1_i32_30
  let v34 : BitVec 32 := Scalar.addi c0_i32_31 v33
  v34.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_40 : BitVec 32 := 1#32
  let v41 : BitVec 32 := Scalar.muli v7 c1_i32_40
  let v42 : BitVec 32 := Scalar.addi c0_i32_41 v41
  v42.toNat
def k0_dev5 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_92 : BitVec 32 := 1#32
  let v73 : BitVec 32 := Scalar.muli v7 c1_i32_92
  let v74 : BitVec 32 := Scalar.addi c0_i32_93 v73
  v74.toNat
def k0_dev6 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_102 : BitVec 32 := 1#32
  let v81 : BitVec 32 := Scalar.muli v7 c1_i32_102
  let v82 : BitVec 32 := Scalar.addi c0_i32_103 v81
  v82.toNat
def k0_dev7 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_154 : BitVec 32 := 1#32
  let v113 : BitVec 32 := Scalar.muli v7 c1_i32_154
  let v114 : BitVec 32 := Scalar.addi c0_i32_155 v113
  v114.toNat
def k0_dev8 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_164 : BitVec 32 := 1#32
  let v121 : BitVec 32 := Scalar.muli v7 c1_i32_164
  let v122 : BitVec 32 := Scalar.addi c0_i32_165 v121
  v122.toNat
def k0_dev9 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_215 : BitVec 32 := 1#32
  let v153 : BitVec 32 := Scalar.muli v7 c1_i32_215
  let v154 : BitVec 32 := Scalar.addi c0_i32_216 v153
  v154.toNat
def k0_dev10 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_225 : BitVec 32 := 1#32
  let v161 : BitVec 32 := Scalar.muli v7 c1_i32_225
  let v162 : BitVec 32 := Scalar.addi c0_i32_226 v161
  v162.toNat
def k0_dev11 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_276 : BitVec 32 := 1#32
  let v193 : BitVec 32 := Scalar.muli v7 c1_i32_276
  let v194 : BitVec 32 := Scalar.addi c0_i32_277 v193
  v194.toNat
def k0_dev12 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_286 : BitVec 32 := 1#32
  let v201 : BitVec 32 := Scalar.muli v7 c1_i32_286
  let v202 : BitVec 32 := Scalar.addi c0_i32_287 v201
  v202.toNat
def k0_dev13 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_337 : BitVec 32 := 1#32
  let v233 : BitVec 32 := Scalar.muli v7 c1_i32_337
  let v234 : BitVec 32 := Scalar.addi c0_i32_338 v233
  v234.toNat
def k0_dev14 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_347 : BitVec 32 := 1#32
  let v241 : BitVec 32 := Scalar.muli v7 c1_i32_347
  let v242 : BitVec 32 := Scalar.addi c0_i32_348 v241
  v242.toNat
def k0_dev15 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_398 : BitVec 32 := 1#32
  let v273 : BitVec 32 := Scalar.muli v7 c1_i32_398
  let v274 : BitVec 32 := Scalar.addi c0_i32_399 v273
  v274.toNat
def k0_dev16 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_408 : BitVec 32 := 1#32
  let v281 : BitVec 32 := Scalar.muli v7 c1_i32_408
  let v282 : BitVec 32 := Scalar.addi c0_i32_409 v281
  v282.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S2x2048x256 : Shape := ⟨3, ![2, 2048, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2x4x2048x2048 : Shape := ⟨4, ![2, 4, 2048, 2048]⟩
abbrev S1x1x2048x2048 : Shape := ⟨4, ![1, 1, 2048, 2048]⟩
abbrev S2x4x2048 : Shape := ⟨3, ![2, 4, 2048]⟩
abbrev S2x4x2048x1 : Shape := ⟨4, ![2, 4, 2048, 1]⟩
abbrev S1x1x2048x1 : Shape := ⟨4, ![1, 1, 2048, 1]⟩
abbrev S2x4x64x2048 : Shape := ⟨4, ![2, 4, 64, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S512x256, .bf16⟩
  | .hbm, ⟨2, _⟩ => ⟨S2x2048x4x64, .bf16⟩
  | .hbm, ⟨3, _⟩ => ⟨S2x2048x4x64, .bf16⟩
  | .hbm, ⟨4, _⟩ => ⟨S256x512, .bf16⟩
  | .hbm, ⟨5, _⟩ => ⟨S2x2048x512, .f32⟩
  | .hbm, ⟨6, _⟩ => ⟨S512x256, .f32⟩
  | .hbm, ⟨7, _⟩ => ⟨S2x2048x4x64, .f32⟩
  | .hbm, ⟨8, _⟩ => ⟨S2x2048x4x64, .f32⟩
  | .hbm, ⟨9, _⟩ => ⟨S256x512, .f32⟩
  | .hbm, ⟨10, _⟩ => ⟨S2x2048x256, .f32⟩
  | .hbm, ⟨11, _⟩ => ⟨S2x2048x4x64, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S_, .i32⟩
  | .hbm, ⟨24, _⟩ => ⟨S1x2048, .i32⟩
  | .hbm, ⟨25, _⟩ => ⟨S1x2048, .i1⟩
  | .hbm, ⟨26, _⟩ => ⟨S_, .i32⟩
  | .hbm, ⟨27, _⟩ => ⟨S2048x1, .i32⟩
  | .hbm, ⟨28, _⟩ => ⟨S2048x1, .i1⟩
  | .hbm, ⟨29, _⟩ => ⟨S2048x2048, .i1⟩
  | .hbm, ⟨30, _⟩ => ⟨S2048x2048, .i1⟩
  | .hbm, ⟨31, _⟩ => ⟨S2048x2048, .i1⟩
  | .hbm, ⟨32, _⟩ => ⟨S2048x2048, .i1⟩
  | .hbm, ⟨33, _⟩ => ⟨S2x4x2048x2048, .f32⟩
  | .hbm, ⟨34, _⟩ => ⟨S_, .f32⟩
  | .hbm, ⟨35, _⟩ => ⟨S2x4x2048x2048, .f32⟩
  | .hbm, ⟨36, _⟩ => ⟨S2x4x2048x2048, .f32⟩
  | .hbm, ⟨37, _⟩ => ⟨S1x1x2048x2048, .i1⟩
  | .hbm, ⟨38, _⟩ => ⟨S_, .f32⟩
  | .hbm, ⟨39, _⟩ => ⟨S_, .f32⟩
  | .hbm, ⟨40, _⟩ => ⟨S2x4x2048x2048, .i1⟩
  | .hbm, ⟨41, _⟩ => ⟨S2x4x2048x2048, .f32⟩
  | .hbm, ⟨42, _⟩ => ⟨S2x4x2048x2048, .f32⟩
  | .hbm, ⟨43, _⟩ => ⟨S_, .f32⟩
  | .hbm, ⟨44, _⟩ => ⟨S2x4x2048, .f32⟩
  | .hbm, ⟨45, _⟩ => ⟨S2x4x2048x1, .f32⟩
  | .hbm, ⟨46, _⟩ => ⟨S2x4x2048x2048, .f32⟩
  | .hbm, ⟨47, _⟩ => ⟨S2x4x2048x2048, .f32⟩
  | .hbm, ⟨48, _⟩ => ⟨S2x4x2048x2048, .f32⟩
  | .hbm, ⟨49, _⟩ => ⟨S_, .i1⟩
  | .hbm, ⟨50, _⟩ => ⟨S2048, .i1⟩
  | .hbm, ⟨51, _⟩ => ⟨S1x1x2048x1, .i1⟩
  | .hbm, ⟨52, _⟩ => ⟨S_, .f32⟩
  | .hbm, ⟨53, _⟩ => ⟨S2x4x2048, .f32⟩
  | .hbm, ⟨54, _⟩ => ⟨S2x4x2048x1, .f32⟩
  | .hbm, ⟨55, _⟩ => ⟨S_, .f32⟩
  | .hbm, ⟨56, _⟩ => ⟨S_, .f32⟩
  | .hbm, ⟨57, _⟩ => ⟨S2x4x2048x1, .i1⟩
  | .hbm, ⟨58, _⟩ => ⟨S2x4x2048x1, .f32⟩
  | .hbm, ⟨59, _⟩ => ⟨S2x4x2048x1, .f32⟩
  | .hbm, ⟨60, _⟩ => ⟨S2x4x2048x2048, .f32⟩
  | .hbm, ⟨61, _⟩ => ⟨S2x4x2048x2048, .f32⟩
  | .hbm, ⟨62, _⟩ => ⟨S1x1x2048x1, .i1⟩
  | .hbm, ⟨63, _⟩ => ⟨S_, .f32⟩
  | .hbm, ⟨64, _⟩ => ⟨S_, .f32⟩
  | .hbm, ⟨65, _⟩ => ⟨S2x4x2048x2048, .i1⟩
  | .hbm, ⟨66, _⟩ => ⟨S2x4x2048x2048, .f32⟩
  | .hbm, ⟨67, _⟩ => ⟨S2x4x2048x2048, .f32⟩
  | .hbm, ⟨68, _⟩ => ⟨S2x4x64x2048, .f32⟩
  | .hbm, ⟨69, _⟩ => ⟨S2x2048x4x64, .f32⟩
  | .hbm, ⟨70, _⟩ => ⟨S2x2048x256, .f32⟩
  | .hbm, ⟨71, _⟩ => ⟨S2x2048x512, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Protocol.lean ====
/-
# The exchange protocol of the ring all-gather

Eight devices sit on a ring. Each device keeps its own rows of `k` and of `v` in two buffers that hold the rows of
every device, and in seven rounds passes on to its successor the block it got last. Round `h` of device `c` sends the
block of device `back c h` (the device `h` steps before `c`) to `nxt c`, and receives from `prv c` the block of
`back c (h + 1)`. Every round has its own four semaphores: a send and a receive semaphore for each of the two buffers.

This module fixes the vocabulary: the ring, the semaphores, the blocks of a gathered buffer, what the blocks hold, and
the schedule that says who pays which semaphore, how much, and what is handed over with the payment.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the staging pipeline's and the ring's -/

/-- The ring's rounds, each duty named by a truth value. -/
abbrev UB : Type := URounds (GSem nD τ sig) Bool
/-- The staging pipeline's rounds beside the ring's. -/
abbrev UU : Type := UR sig nD τ × UB

local notation "𝕄" => MT nD τ sig Unit (Elt F) ℕ UU ℕ

/-- Where the staging pipeline's component sits. -/
abbrev EP : Emb (UR sig nD τ) (MT nD τ sig Unit (Elt F) ℕ UU ℕ) := embL
/-- Where the ring's component sits. -/
abbrev ER : Emb UB (MT nD τ sig Unit (Elt F) ℕ UU ℕ) := embR

variable (m : (ℓ : Loc nD τ sig) → Buf (Elt F) ℓ) (ρ : Dev nD → PrngReg)

/-- The state a run starts from: any memory, every semaphore at zero, any generator registers. -/
def s₀ : MemSt nD τ sig (Elt F) := ⟨m, fun _ => 0, ρ⟩

/-! ## The ring -/

set_option backward.proofsInPublic true in
/-- The next device on the ring. -/
def nxt (c : Dev nD) : Dev nD := ⟨(c.val + 1) % 8, Nat.mod_lt _ (by decide)⟩
set_option backward.proofsInPublic true in
/-- The device before. -/
def prv (c : Dev nD) : Dev nD := ⟨(c.val + 7) % 8, Nat.mod_lt _ (by decide)⟩
set_option backward.proofsInPublic true in
/-- The device `h` steps before `c`, for `h` up to eight. -/
def back (c : Dev nD) (h : ℕ) : Dev nD := ⟨((c.val + 8) - h) % 8, Nat.mod_lt _ (by decide)⟩

/-- The device before the next one is the device itself. -/
theorem prv_nxt (c : Dev nD) : prv (nxt c) = c := by revert c; decide
/-- The device after the previous one is the device itself. -/
theorem nxt_prv (c : Dev nD) : nxt (prv c) = c := by revert c; decide
/-- No step back is the device itself. -/
theorem back_zero (c : Dev nD) : back c 0 = c := by revert c; decide
/-- One step on and one more step back is no step. -/
theorem back_nxt (c : Dev nD) (h : Fin 7) : back (nxt c) (h.val + 1) = back c h.val := by revert c h; decide

/-- The rotation of the ring by one device. -/
def ring : Dev nD ≃ Dev nD := ⟨nxt, prv, prv_nxt, nxt_prv⟩

/-- Counting back from `c`: the eight distances name the eight devices, each once. -/
def backEquiv (c : Dev nD) : Fin 8 ≃ Dev nD where
  toFun h := back c h.val
  invFun d := ⟨((c.val + 8) - d.val) % 8, Nat.mod_lt _ (by decide)⟩
  left_inv := by revert c; decide
  right_inv := by revert c; decide

/-! ## The buffers and their blocks -/

/-- The buffers of gathered rows: of `k` (`false`) and of `v` (`true`). -/
abbrev bufM : Bool → Memref sig .tc .vmem S2x4x2048x64 .bf16
  | false => Memref.whole cc0_scratch0
  | true => Memref.whole cc0_scratch1

/-- The 256 rows of device `o` lie within the gathered buffer. -/
theorem rows_inb (o : Dev nD) :
    ∀ a, (![0, 0, 256 * o.val, 0] : Fin 4 → ℕ) a + S2x4x256x64.size a ≤ S2x4x2048x64.size a := by
  revert o; decide

/-- The rows of device `o` in a gathered buffer: 256 of the 2048, for every batch and head. -/
abbrev rows (o : Dev nD) : Rect S2x4x2048x64 :=
  Rect.unit (s := S2x4x2048x64) ![0, 0, 256 * o.val, 0] S2x4x256x64.size (rows_inb o)

/-- Device `o`'s block of buffer `b`. -/
abbrev blkM (b : Bool) (o : Dev nD) : Memref sig .tc .vmem S2x4x256x64 .bf16 :=
  (bufM b).slice (rows o) (fun _ => rfl)

/-- Where an index of a block lies in the buffer, axis by axis. -/
theorem rows_emb (o : Dev nD) (j : (rows o).shape.Idx) :
    (((rows o).emb j 0 : Fin _) : ℕ) = (j 0 : ℕ) ∧ (((rows o).emb j 1 : Fin _) : ℕ) = (j 1 : ℕ)
      ∧ (((rows o).emb j 2 : Fin _) : ℕ) = 256 * o.val + (j 2 : ℕ) ∧ (((rows o).emb j 3 : Fin _) : ℕ) = (j 3 : ℕ) := by
  refine ⟨?_, ?_, ?_, ?_⟩ <;> rw [Rect.emb_apply] <;> simp

/-- Two devices' rows have no element in common. -/
theorem rows_disjoint (o o' : Dev nD) (h : o ≠ o') : Disjoint (rows o).set (rows o').set := by
  refine Rect.unit_disjoint (2 : Fin 4) ?_
  have hv : o.val ≠ o'.val := fun e => h (Fin.ext e)
  show 256 * o.val + 256 ≤ 256 * o'.val ∨ 256 * o'.val + 256 ≤ 256 * o.val
  omega

/-- The device whose rows hold an element. -/
def rowDev (i : S2x4x2048x64.Idx) : Dev nD :=
  ⟨(i (2 : Fin 4)).val / 256, Nat.div_lt_of_lt_mul (show (i (2 : Fin 4)).val < 256 * 8 from (i (2 : Fin 4)).isLt)⟩

/-- The eight devices' rows are the whole buffer. -/
theorem rows_cover : (Finset.univ : Finset (Dev nD)).biUnion (fun o => (rows o).set) = Finset.univ := by
  refine Finset.eq_univ_of_forall fun i => Finset.mem_biUnion.mpr ⟨rowDev i, Finset.mem_univ _, Rect.mem_set_unit.mpr fun a => ?_⟩
  have h0 : (i (0 : Fin 4)).val < 2 := (i (0 : Fin 4)).isLt
  have h1 : (i (1 : Fin 4)).val < 4 := (i (1 : Fin 4)).isLt
  have h2 : (i (2 : Fin 4)).val < 2048 := (i (2 : Fin 4)).isLt
  have h3 : (i (3 : Fin 4)).val < 64 := (i (3 : Fin 4)).isLt
  match a with
  | ⟨0, _⟩ => exact ⟨Nat.zero_le _, by show (i (0 : Fin 4)).val < 0 + 2; omega⟩
  | ⟨1, _⟩ => exact ⟨Nat.zero_le _, by show (i (1 : Fin 4)).val < 0 + 4; omega⟩
  | ⟨2, _⟩ =>
    exact ⟨by show 256 * ((i (2 : Fin 4)).val / 256) ≤ (i (2 : Fin 4)).val; omega,
      by show (i (2 : Fin 4)).val < 256 * ((i (2 : Fin 4)).val / 256) + 256; omega⟩
  | ⟨3, _⟩ => exact ⟨Nat.zero_le _, by show (i (3 : Fin 4)).val < 0 + 64; omega⟩

/-- The credit of one block's transfer. -/
abbrev N : ℕ := (blkM false (0 : Dev nD)).view.dmaCredit
/-- One transfer pays a positive credit. -/
theorem N_pos : 0 < N := View.dmaCredit_pos _ (by decide)
/-- Every block of either buffer is transferred at that credit. -/
theorem credit_eq (b : Bool) (o : Dev nD) : (blkM b o).view.dmaCredit = N := by cases b <;> rfl

/-! ## The contents -/

/-- What the staging buffers of `k` and of `v` hold on a device when the kernel starts: its blocks of the arguments. -/
def stgK (c : Dev nD) : Vec F S2x256x4x64 .bf16 :=
  (win0_2.blk (0 : Fin 1)).view.read (Elt F) ((s₀ m ρ).mem ((c : Thread nD τ).loc main_arg2))
/-- See `stgK`. -/
def stgV (c : Dev nD) : Vec F S2x256x4x64 .bf16 :=
  (win0_3.blk (0 : Fin 1)).view.read (Elt F) ((s₀ m ρ).mem ((c : Thread nD τ).loc main_arg3))

/-- The block a device contributes to buffer `b`: its own rows, heads before rows. -/
def ownBlk (b : Bool) (c : Dev nD) : Vec F S2x4x256x64 .bf16 :=
  match b with
  | false => k0_pay2 (stgK m ρ c)
  | true => k0_pay3 (stgV m ρ c)

/-- An element of a gathered buffer as an element of the block that holds it. -/
def inBlk (i : S2x4x2048x64.Idx) : S2x4x256x64.Idx := fun a => match a with
  | ⟨0, _⟩ => ⟨(i (0 : Fin 4)).val, (i (0 : Fin 4)).isLt⟩
  | ⟨1, _⟩ => ⟨(i (1 : Fin 4)).val, (i (1 : Fin 4)).isLt⟩
  | ⟨2, _⟩ => ⟨(i (2 : Fin 4)).val % 256, Nat.mod_lt _ (by decide)⟩
  | ⟨3, _⟩ => ⟨(i (3 : Fin 4)).val, (i (3 : Fin 4)).isLt⟩

/-- The gathered contents of buffer `b`, the same on every device: each device's rows are the block it contributes. -/
def gath (b : Bool) : Vec F S2x4x2048x64 .bf16 := fun i => ownBlk m ρ b (rowDev i) (inBlk i)

/-- A block of the gathered contents is the block its device contributes. -/
theorem gath_rows (b : Bool) (o : Dev nD) (j : (rows o).shape.Idx) : gath m ρ b ((rows o).emb j) = ownBlk m ρ b o j := by
  obtain ⟨h0, h1, h2, h3⟩ := rows_emb o j
  have hj : (j (2 : Fin 4)).val < 256 := (j (2 : Fin 4)).isLt
  have hd : rowDev ((rows o).emb j) = o := Fin.ext (by
    show (((rows o).emb j 2 : Fin _) : ℕ) / 256 = o.val
    rw [h2]; omega)
  have hi : inBlk ((rows o).emb j) = j := funext fun a => match a with
    | ⟨0, _⟩ => Fin.ext h0
    | ⟨1, _⟩ => Fin.ext h1
    | ⟨2, _⟩ => Fin.ext (by show (((rows o).emb j 2 : Fin _) : ℕ) % 256 = _; rw [h2]; show (256 * o.val + (j (2 : Fin 4)).val) % 256 = (j (2 : Fin 4)).val; omega)
    | ⟨3, _⟩ => Fin.ext h3
  unfold gath; rw [hd, hi]

/-- Device `c` holds device `o`'s block of buffer `b`, gathered. -/
def slc (b : Bool) (c o : Dev nD) : sProp 𝕄 :=
  owns (c : Thread nD τ) (blkM b o) fullShare fun j => gath m ρ b ((rows o).emb j)

/-- Device `c` holds the room for device `o`'s block of buffer `b`, whatever is there. -/
def room (b : Bool) (c o : Dev nD) : sProp 𝕄 :=
  iprop(∃ f, (blkM b o).view.loc (c : Thread nD τ) ↦[(blkM b o).view.set]{fullShare} f)

/-- A held block may be kept inside a semaphore's invariant. -/
instance slc_storable (b : Bool) (c o : Dev nD) : BI.Storable (upEmb : UEmb _ 𝕄) (slc m ρ b c o) := by
  unfold slc; infer_instance
omit [FloatOps F] in
/-- Held room may be kept inside a semaphore's invariant. -/
instance room_storable (b : Bool) (c o : Dev nD) : BI.Storable (upEmb : UEmb _ 𝕄) (room (F := F) b c o) := by
  unfold room; infer_instance

/-! ## The semaphores -/

/-- The barrier semaphore, shared by all kernels of this collective. -/
abbrev barS : Sem sig := (SemArray.scalar (sig.barrier 0 rfl) : Sems sig S_).sem
/-- The number, among the kernel's own 28 transfer semaphores, of round `h`'s send (`r = false`) or receive (`r = true`)
    semaphore of buffer `b`. -/
def ix (b r : Bool) (h : Fin 7) : Fin 28 := ⟨14 * b.toNat + 7 * r.toNat + h.val, by
  have := h.isLt; have := b.toNat_le; have := r.toNat_le; omega⟩
/-- The kernel's own transfer semaphores. -/
abbrev osem : Fin 28 → SemLoc sig := fun k => .dma (⟨6 + k.val, by have := k.isLt; show 6 + k.val < 34; omega⟩ : DmaSem sig)
/-- A device's barrier semaphore. -/
abbrev barCell (c : Dev nD) : GSem nD τ sig := ((c : Thread nD τ), .reg barS)
/-- A device's transfer semaphores. -/
abbrev xCell (c : Dev nD) (k : Fin 28) : GSem nD τ sig := ((c : Thread nD τ), osem k)
/-- All the semaphores of the exchange on a device: the barrier's, then the transfers'. -/
abbrev csem : Fin 29 → SemLoc sig := Fin.cases (.reg barS) osem
/-- See `csem`. -/
abbrev kcell (ck : Dev nD × Fin 29) : GSem nD τ sig := ((ck.1 : Thread nD τ), csem ck.2)

/-- The transfer semaphores are all different. -/
theorem osem_injective : Function.Injective osem := fun k k' h => by
  injection h with h; exact Fin.ext (by have := congrArg Fin.val h; simp only at this; omega)
/-- No transfer semaphore is the barrier's. -/
theorem dma_ne_bar (q : DmaSem sig) : (SemLoc.dma q : SemLoc sig) ≠ .reg barS := fun h => by cases h
/-- A transfer semaphore's number determines its buffer, its direction and its round. -/
theorem ix_injective {b b' r r' : Bool} {h h' : Fin 7} (e : ix b r h = ix b' r' h') : b = b' ∧ r = r' ∧ h = h' := by
  revert b b' r r' h h'; decide

/-! ## The schedule

One round of every semaphore. A barrier semaphore is paid one unit by each neighbour; the successor's unit brings the room
for the seven blocks the device will send there. A send semaphore is paid when the sent block has been read, and gives the
block back; a receive semaphore when the block has landed, and gives the landed block. -/

/-- What the successor hands over at the barrier: on it, the room for what this device sends in the seven rounds. -/
def barPay (c : Dev nD) : sProp 𝕄 :=
  bigSep Finset.univ fun h : Fin 7 => iprop(room (F := F) false (nxt c) (back c h.val) ∗ room (F := F) true (nxt c) (back c h.val))

/-- What transfer semaphore number `k` gives device `c`: the block it sent, or the one it received. -/
def xPay (c : Dev nD) (k : ℕ) : sProp 𝕄 :=
  slc m ρ (decide (14 ≤ k)) c (back c (k % 7 + if k % 14 < 7 then 0 else 1))

omit [FloatOps F] in
/-- What the successor hands over may be kept inside a semaphore's invariant. -/
instance barPay_storable (c : Dev nD) : BI.Storable (upEmb : UEmb _ 𝕄) (barPay (F := F) c) := by
  unfold barPay; infer_instance

/-- A transfer semaphore of a TensorCore. -/
abbrev IsXfer (g : GSem nD τ sig) : Prop := g.1.2 = .tc ∧ ∃ k, g.2 = osem k
/-- A barrier semaphore of a TensorCore. -/
abbrev IsBar (g : GSem nD τ sig) : Prop := g.1.2 = .tc ∧ g.2 = .reg barS

open Classical in
/-- Who pays what: see the head of this section. -/
def Rd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := match g.2 with
    | .reg _ => if d then barPay g.1.1 else iprop(emp)
    | .dma q => xPay m ρ g.1.1 (q.val - 6)
  amount_pos g _ _ _ := by
    by_cases h : g.2 = .reg barS
    · rw [if_pos h]; exact Nat.one_pos
    · rw [if_neg h]; exact N_pos

/-- Every payment of the schedule may be kept inside a semaphore's invariant. -/
instance Rd_storable (g : GSem nD τ sig) (r : ℕ) (d : Bool) : BI.Storable (upEmb : UEmb _ 𝕄) ((Rd (F := F) m ρ).payload g r d) := by
  obtain ⟨⟨c, κ⟩, sm⟩ := g
  cases sm with
  | reg q =>
    show BI.Storable upEmb (if d then barPay c else iprop(emp))
    split <;> infer_instance
  | dma q =>
    show BI.Storable upEmb (xPay m ρ c (q.val - 6))
    unfold xPay; infer_instance

section Tables
variable (c : Dev nD) (k : Fin 28)

/-- A barrier semaphore is paid twice, once by each neighbour. -/
theorem duties_bar : (Rd (F := F) m ρ).duties (barCell c) 0 = Finset.univ := by dsimp only [Rd]; exact if_pos ⟨rfl, rfl, rfl⟩
/-- A transfer semaphore is paid once. -/
theorem duties_x : (Rd (F := F) m ρ).duties (xCell c k) 0 = {false} := by
  dsimp only [Rd]; rw [if_neg (fun h => dma_ne_bar _ h.2.2)]; exact if_pos ⟨rfl, rfl, k, rfl⟩
/-- After the first round of the schedule nothing is paid. -/
theorem duties_later (g : GSem nD τ sig) : ∀ r, 1 ≤ r → (Rd (F := F) m ρ).duties g r = ∅ :=
  fun r hr => by dsimp only [Rd]; rw [if_neg fun h => by omega, if_neg fun h => by omega]
/-- Each payment at a barrier is one unit. -/
theorem amount_bar (d : Bool) : (Rd (F := F) m ρ).amount (barCell c) 0 d = 1 := by dsimp only [Rd]; exact if_pos rfl
/-- The payment at a transfer semaphore is one block's credit. -/
theorem amount_x (d : Bool) : (Rd (F := F) m ρ).amount (xCell c k) 0 d = N := by dsimp only [Rd]; exact if_neg (dma_ne_bar _)
/-- A barrier semaphore is paid two units in all. -/
theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
/-- A transfer semaphore is paid one block's credit in all. -/
theorem expect_x : (Rd (F := F) m ρ).expect (xCell c k) 0 = N := by
  unfold Schedule.expect Schedule.amountOf; rw [duties_x, Finset.sum_singleton, amount_x]
/-- The payment at a transfer semaphore brings a block. -/
theorem payload_x (d : Bool) : (Rd (F := F) m ρ).payload (xCell c k) 0 d = xPay m ρ c k.val := by
  show xPay m ρ c (6 + k.val - 6) = _; rw [Nat.add_sub_cancel_left]

/-- The successor's payment at a barrier: the room on it. -/
theorem payload_bar_true : (Rd (F := F) m ρ).payload (barCell c) 0 true = barPay c := rfl
/-- The predecessor's: nothing. -/
theorem payload_bar_false : (Rd (F := F) m ρ).payload (barCell c) 0 false = iprop(emp) := rfl

/-- Both of a barrier's payments: nothing from the predecessor, the room on the successor. -/
theorem rest_bar : bigSep ((Rd (F := F) m ρ).duties (barCell c) 0 \ ∅) (fun d => (Rd (F := F) m ρ).payload (barCell c) 0 d)
    = iprop(emp ∗ barPay c) := by
  rw [Finset.sdiff_empty, duties_bar, bigSep_univ_eq_bigSepL [false, true] (by decide) (by decide), bigSepL_cons_cons, bigSepL_singleton]
  rfl
/-- A transfer semaphore's one payment. -/
theorem rest_x : bigSep ((Rd (F := F) m ρ).duties (xCell c k) 0 \ ∅) (fun d => (Rd (F := F) m ρ).payload (xCell c k) 0 d)
    = xPay m ρ c k.val := by
  rw [Finset.sdiff_empty, duties_x, bigSep_singleton, payload_x]

/-- The send and receive semaphores' payments by buffer and round. -/
theorem xPay_ix (b r : Bool) (h : Fin 7) : xPay m ρ c (ix b r h).val = slc m ρ b c (back c (h.val + r.toNat)) := by
  have hb : decide (14 ≤ (ix b r h).val) = b := by revert b r h; decide
  have hh : (ix b r h).val % 7 + (if (ix b r h).val % 14 < 7 then 0 else 1) = h.val + r.toNat := by revert b r h; decide
  unfold xPay; rw [hb, hh]
end Tables

/-! ## What each device owes, and the order of waits -/

/-- The receive credits device `c` owes its successor for the last `n` rounds; of a round, the payment for `k` is the
    last summand, the one for `v` the one before. -/
def owe (c : Dev nD) : ℕ → CellTallies nD τ sig Unit
  | 0 => 0
  | n + 1 => owe c n + tallyAt (xCell (nxt c) (ix true true (rnd n))) () N + tallyAt (xCell (nxt c) (ix false true (rnd n))) () N
where
  /-- The round that has `n` rounds after it. -/
  rnd (n : ℕ) : Fin 7 := ⟨6 - n, by omega⟩

/-- What device `c` owes when it starts: the seven rounds, and a unit to each neighbour's barrier, the predecessor's
    last. -/
def O₀ (c : Dev nD) : CellTallies nD τ sig Unit := owe c 7 + tallyAt (barCell (nxt c)) () 1 + tallyAt (barCell (prv c)) () 1

/-- Each TensorCore semaphore has the one index. -/
def L (g : GSem nD τ sig) : Finset Unit := if g.1.2 = .tc then {()} else ∅
/-- The level of a transfer semaphore by its number in the pool: round `h`'s receive semaphores at `2 + h`, the others
    at zero. -/
def lvq (q : ℕ) : ℕ := if 6 ≤ q ∧ 7 ≤ (q - 6) % 14 then 2 + (q - 6) % 7 else 0
/-- The level of a semaphore: the barrier's at one. -/
def lv (g : GSem nD τ sig) (_ : Unit) : ℕ := match g.2 with
  | .reg _ => 1
  | .dma q => lvq q.val

/-- Only TensorCore semaphores have a level. -/
theorem L_of_ne (g : GSem nD τ sig) (h : g.1.2 ≠ .tc) : L g = ∅ := if_neg h
/-- A TensorCore semaphore has one level. -/
theorem L_tc {g : GSem nD τ sig} (h : g.1.2 = .tc) : L g = {()} := if_pos h

/-- A receive semaphore's level is two more than its round; a send semaphore's is zero. -/
theorem lv_ix (c : Dev nD) (b r : Bool) (h : Fin 7) : lv (xCell c (ix b r h)) () = if r then 2 + h.val else 0 := by
  show lvq (6 + (ix b r h).val) = _
  revert b r h; decide

/-- A single payment owed sits at its semaphore. -/
theorem tally_pos {g g' : GSem nD τ sig} {u : Unit} {n : ℕ} (h : 0 < (tallyAt g () n : CellTallies nD τ sig Unit) g' u) : g' = g := by
  rw [tallyAt_apply] at h
  by_contra hn
  rw [if_neg (fun e => hn e.1)] at h
  exact Nat.lt_irrefl 0 h

/-- A payment owed in a sum is owed in one of the two. -/
theorem add_pos_cases {A B : CellTallies nD τ sig Unit} {g : GSem nD τ sig} {u : Unit} (h : 0 < (A + B) g u) : 0 < A g u ∨ 0 < B g u := by
  rw [Pi.add_apply, Finsupp.add_apply] at h; omega

/-- What is owed for the last `n` rounds is owed to receive semaphores of those rounds. -/
theorem owe_pos {c : Dev nD} : ∀ {n : ℕ}, n ≤ 7 → ∀ {g : GSem nD τ sig} {u : Unit}, 0 < owe c n g u → g.1.2 = .tc ∧ 8 - n < lv g ()
  | 0, _, g, u, h => absurd h (by simp [owe])
  | n + 1, hn, g, u, h => by
    have hr : (owe.rnd n).val = 6 - n := rfl
    rcases add_pos_cases h with h | h
    · rcases add_pos_cases h with h | h
      · obtain ⟨h1, h2⟩ := owe_pos (Nat.le_of_succ_le hn) h
        exact ⟨h1, by omega⟩
      · rw [tally_pos h]; refine ⟨rfl, ?_⟩; rw [lv_ix]; simp only [if_true]; omega
    · rw [tally_pos h]; refine ⟨rfl, ?_⟩; rw [lv_ix]; simp only [if_true]; omega

/-- Whatever is owed at the start is owed to a semaphore of positive level. -/
theorem O₀_pos {c : Dev nD} {g : GSem nD τ sig} {u : Unit} (h : 0 < O₀ c g u) : g.1.2 = .tc ∧ 0 < lv g () := by
  rcases add_pos_cases h with h | h
  · rcases add_pos_cases h with h | h
    · obtain ⟨h1, h2⟩ := owe_pos le_rfl h
      exact ⟨h1, by omega⟩
    · rw [tally_pos h]; exact ⟨rfl, Nat.one_pos⟩
  · rw [tally_pos h]; exact ⟨rfl, Nat.one_pos⟩

/-- A device may wait on a semaphore at level `l` or below while everything it owes is above `l`. -/
theorem mayWait_of (c : Dev nD) (sm : SemLoc sig) (l : ℕ) (O : CellTallies nD τ sig Unit)
    (hw : lv ((c : Thread nD τ), sm) () ≤ l) (hO : ∀ g u, 0 < O g u → g.1.2 = .tc ∧ l < lv g ()) :
    (levAts L lv : sProp 𝕄) ⊢ MayWait (c : Thread nD τ) sm () O :=
  MayOwe.of_cut (L := L) (lev := lv) l (fun p hp => by rw [Finset.mem_singleton.mp hp, L_tc rfl]; exact Finset.mem_singleton_self _)
    (fun g u hg => by rw [L_tc (hO g u hg).1]; exact Finset.mem_singleton_self _)
    (fun p hp => by rw [Finset.mem_singleton.mp hp]; exact hw)
    (fun g u hg => (hO g u hg).2)

end Cert.Gather

end
-- ==== Proof.Exchange.lean ====
/-
# The seven rounds of the exchange

One round on one device: its block of `k` and its block of `v` are sent to the successor, then the device waits for both
to have left and for both of the predecessor's to have come. What a round needs and what it leaves are stated once, for
any round; the seven rounds follow by induction.
-/
module

public import proofs.«01_k».proof.Proof.Protocol

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The rounds as the program writes them -/

/-- The program of the body, or what is left of it. -/
abbrev Body (F : FTy → Type) [FloatOps F] : Type 1 := Prog (TpuEff nD τ sig (Elt F) Λ₀ .tc) PUnit

/-- The gathered buffers are whole buffers. -/
theorem buf_whole : (b : Bool) → (bufM b).IsWhole
  | false => Memref.isWhole_whole _
  | true => Memref.isWhole_whole _

/-- The block round `h` of device `d` names, at the offset the program computes. -/
abbrev curM (b : Bool) (d : Dev nD) (h : Fin 7) : Memref sig .tc .vmem S2x4x256x64 .bf16 :=
  (bufM b).slice (Rect.unit (s := S2x4x2048x64) (k0_off2 d (BitVec.ofNat 32 h.val)) S2x4x256x64.size (k0_off2_inb d h)) (fun _ => rfl)

/-- A block that is sent fills whole words of memory. -/
theorem cur_words (b : Bool) (d : Dev nD) (h : Fin 7) : (curM b d h).view.WordExact := by
  cases b
  · exact (buf_whole false).wordExact_slice rfl _ (k0_off2_wordsbf16 d h)
  · exact (buf_whole true).wordExact_slice rfl _ (k0_off2_wordsbf16 d h)

/-- A block that is sent does not lie in a SparseCore's scratch memory. -/
theorem cur_scratch (b : Bool) (d : Dev nD) (h : Fin 7) : (curM b d h).view.ref.isScScratch = false := by
  cases b <;> rfl

/-- The device round `h` sends to, as the program computes it for each transfer. -/
def tgt (d : Dev nD) : Bool → Fin 7 → Dev nD
  | false, 0 => ⟨k0_dev3 d, k0_dev3_lt d⟩
  | true, 0 => ⟨k0_dev4 d, k0_dev4_lt d⟩
  | false, 1 => ⟨k0_dev5 d, k0_dev5_lt d⟩
  | true, 1 => ⟨k0_dev6 d, k0_dev6_lt d⟩
  | false, 2 => ⟨k0_dev7 d, k0_dev7_lt d⟩
  | true, 2 => ⟨k0_dev8 d, k0_dev8_lt d⟩
  | false, 3 => ⟨k0_dev9 d, k0_dev9_lt d⟩
  | true, 3 => ⟨k0_dev10 d, k0_dev10_lt d⟩
  | false, 4 => ⟨k0_dev11 d, k0_dev11_lt d⟩
  | true, 4 => ⟨k0_dev12 d, k0_dev12_lt d⟩
  | false, 5 => ⟨k0_dev13 d, k0_dev13_lt d⟩
  | true, 5 => ⟨k0_dev14 d, k0_dev14_lt d⟩
  | false, 6 => ⟨k0_dev15 d, k0_dev15_lt d⟩
  | true, 6 => ⟨k0_dev16 d, k0_dev16_lt d⟩

/-- Every transfer goes to the next device. -/
theorem tgt_eq (d : Dev nD) (b : Bool) (h : Fin 7) : tgt d b h = nxt d := by
  match b, h with
  | false, 0 => exact Fin.ext (k0_dev3_eq d)
  | true, 0 => exact Fin.ext (k0_dev4_eq d)
  | false, 1 => exact Fin.ext (k0_dev5_eq d)
  | true, 1 => exact Fin.ext (k0_dev6_eq d)
  | false, 2 => exact Fin.ext (k0_dev7_eq d)
  | true, 2 => exact Fin.ext (k0_dev8_eq d)
  | false, 3 => exact Fin.ext (k0_dev9_eq d)
  | true, 3 => exact Fin.ext (k0_dev10_eq d)
  | false, 4 => exact Fin.ext (k0_dev11_eq d)
  | true, 4 => exact Fin.ext (k0_dev12_eq d)
  | false, 5 => exact Fin.ext (k0_dev13_eq d)
  | true, 5 => exact Fin.ext (k0_dev14_eq d)
  | false, 6 => exact Fin.ext (k0_dev15_eq d)
  | true, 6 => exact Fin.ext (k0_dev16_eq d)

/-- The signals of the barrier go to the device before and to the device after. -/
theorem sig1_eq (d : Dev nD) : (⟨k0_dev1 d, k0_dev1_lt d⟩ : Dev nD) = prv d := Fin.ext (k0_dev1_eq d)
/-- See `sig1_eq`. -/
theorem sig2_eq (d : Dev nD) : (⟨k0_dev2 d, k0_dev2_lt d⟩ : Dev nD) = nxt d := Fin.ext (k0_dev2_eq d)

/-- The arrays of send (`false`) and receive (`true`) semaphores of a buffer. -/
abbrev semArr : Bool → Bool → DmaSems sig S7
  | false, false => cc0_scratch2
  | false, true => cc0_scratch3
  | true, false => cc0_scratch4
  | true, true => cc0_scratch5

/-- Each round's semaphore lies within its array of seven. -/
theorem sem_inb (h : Fin 7) : ∀ a, (![h.val] : Fin 1 → ℕ) a + S1.size a ≤ S7.size a := by revert h; decide

/-- Round `h`'s semaphore in such an array. -/
abbrev semAt (b r : Bool) (h : Fin 7) : DmaSem sig :=
  (((semArr b r).slice (Rect.unit (s := S7) ![h.val] S1.size (sem_inb h))).squeeze S_ squeezes_S1_S_).sem

/-- It is the one the schedule numbers. -/
theorem semAt_eq (b r : Bool) (h : Fin 7) : SemLoc.dma (semAt b r h) = osem (ix b r h) := by
  revert b r h; decide

/-- The send of buffer `b` in round `h`, before the rest `k`. -/
abbrev sendOp (d : Dev nD) (b : Bool) (h : Fin 7) (k : Body F) : Body F :=
  Prog.op (.enqueueDma (curM b d h) (.remote (Dev.tc (tgt d b h)) (curM b d h) (.dma (semAt b false h)) (cur_scratch b d h)) (.dma (semAt b true h))
    (cur_words b d h) (cur_words b d h) ⟨⟨rfl, Or.inl rfl⟩, trivial⟩) fun _ => k

/-- The wait on buffer `b`'s send or receive semaphore of round `h`, before the rest `k`. -/
abbrev waitOp (d : Dev nD) (b r : Bool) (h : Fin 7) (k : Body F) : Body F :=
  Prog.op (.waitDma2 (semAt b r h) (curM b d h) (curM b d h) (cur_words b d h) (cur_words b d h)) fun _ => k

/-- Round `h`. -/
def exRound (d : Dev nD) (h : Fin 7) (k : Body F) : Body F :=
  sendOp d false h <| sendOp d true h <| waitOp d false false h <| waitOp d false true h <| waitOp d true false h <| waitOp d true true h k

/-- The last `n` rounds. -/
def rounds (d : Dev nD) : ℕ → Body F → Body F
  | 0, k => k
  | n + 1, k => exRound d (owe.rnd n) (rounds d n k)

/-- The block round `h` names is the block of the device `h` steps before. -/
theorem curM_eq (b : Bool) (d : Dev nD) (h : Fin 7) : curM b d h = blkM b (back d h.val) := by
  have key : ∀ (off off' : Fin 4 → ℕ) (e : off = off')
      (i₁ : ∀ a, off a + S2x4x256x64.size a ≤ S2x4x2048x64.size a) (i₂ : ∀ a, off' a + S2x4x256x64.size a ≤ S2x4x2048x64.size a),
      ((bufM b).slice (Rect.unit (s := S2x4x2048x64) off S2x4x256x64.size i₁) (fun _ => rfl) : Memref sig .tc .vmem S2x4x256x64 .bf16)
        = (bufM b).slice (Rect.unit (s := S2x4x2048x64) off' S2x4x256x64.size i₂) (fun _ => rfl) := by
    rintro off _ rfl _ _; rfl
  exact key _ _ (k0_off2_eq d h) _ _

/-! ## The persistent records -/

/-- Every semaphore of the exchange, on every device, is kept to the schedule and has begun its round. -/
def records (K : Dev nD × Fin 29 → ℕ) : sProp 𝕄 :=
  iprop((bigSep Finset.univ fun ck : Dev nD × Fin 29 => cellInv ER (Rd m ρ) (K ck) (kcell ck))
    ∗ bigSep Finset.univ fun ck : Dev nD × Fin 29 => reached ER (kcell ck) 0)

/-- The records may be used any number of times. -/
instance records_persistent (K : Dev nD × Fin 29 → ℕ) : BI.Persistent (records m ρ K) := by unfold records; infer_instance

/-- The records give each semaphore's invariant. -/
theorem rec_inv (K : Dev nD × Fin 29 → ℕ) (ck : Dev nD × Fin 29) : records m ρ K ⊢ cellInv ER (Rd m ρ) (K ck) (kcell ck) := by
  have h : (bigSep Finset.univ fun ck : Dev nD × Fin 29 => (cellInv ER (Rd m ρ) (K ck) (kcell ck) : sProp 𝕄)) ⊢ cellInv ER (Rd m ρ) (K ck) (kcell ck) :=
    bigSep_elim (Finset.mem_univ ck)
  unfold records
  iintro ⟨H, -⟩; iapply h; iexact H
/-- The records say that each semaphore has reached its first round. -/
theorem rec_reached (K : Dev nD × Fin 29 → ℕ) (ck : Dev nD × Fin 29) : records m ρ K ⊢ (reached ER (kcell ck) 0 : sProp 𝕄) := by
  have h : (bigSep Finset.univ fun ck : Dev nD × Fin 29 => (reached ER (kcell ck) 0 : sProp 𝕄)) ⊢ reached ER (kcell ck) 0 :=
    bigSep_elim (Finset.mem_univ ck)
  unfold records
  iintro ⟨-, H⟩; iapply h; iexact H

/-- After the barrier's, the list of semaphores names the transfers'. -/
theorem kcell_x (c : Dev nD) (k : Fin 28) : kcell (c, k.succ) = xCell c k := rfl
/-- The list of semaphores begins with the barrier's. -/
theorem kcell_bar (c : Dev nD) : kcell (c, 0) = barCell c := rfl

/-- The body has no loop that needs a measure. -/
abbrev 𝒱₀ : Variants := Variants.none

/-! ## One transfer, one wait -/

/-- A transfer of block `o` of buffer `b` from `c` to the next device: it takes the block, the room for it there and the
    two semaphores' tokens, and leaves the credit to wait on the send semaphore with. -/
theorem wp_send (K : Dev nD × Fin 29 → ℕ) (c n : Dev nD) (hn : n = nxt c) (b : Bool) (h : Fin 7)
    (M : Memref sig .tc .vmem S2x4x256x64 .bf16) (hM : M = blkM b (back c h.val))
    (sS sR : SemLoc sig) (hS : sS = osem (ix b false h)) (hR : sR = osem (ix b true h))
    {hsc : (M : Memref sig (Dev.tc n : Thread nD τ).2.kind .vmem S2x4x256x64 .bf16).view.ref.isScScratch = false}
    {hsrc hdst : M.view.WordExact}
    {hsem : DmaTarget.Typed .vmem sR (.remote (Dev.tc n : Thread nD τ) M sS hsc)}
    {α : Type} {Q : α → sProp 𝕄} {k : PUnit → Prog (TpuEff nD τ sig (Elt F) Λ₀ .tc) α}
    (O : CellTallies nD τ sig Unit) (W : Waits sig Unit) :
    iprop(records m ρ K ∗ slc m ρ b c (back c h.val) ∗ room (F := F) b (nxt c) (back c h.val)
        ∗ owes (c : Thread nD τ) (O + tallyAt (xCell (nxt c) (ix b true h)) () N) W
        ∗ dutyTok ER (xCell c (ix b false h)) 0 false ∗ dutyTok ER (xCell (nxt c) (ix b true h)) 0 false)
      ⊢ iprop(((cred (tallyAt (xCell c (ix b false h)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) M sS hsc) sR hsrc hdst hsem) k) Q) := by
  subst hn hM hS hR
  unfold slc room owns
  iintro ⟨#Hrec, ⟨%fs, %hfs, Hs⟩, ⟨%fd, Hd⟩, HO, HtS, HtR⟩
  iapply (Rounds.wp_send_pointsTo 𝒱₀ ER (Rd m ρ) (c : Thread nD τ) none (κ₁ := K (c, (ix b false h).succ)) (κ₂ := K (nxt c, (ix b true h).succ))
    (r₁ := 0) (r₂ := 0) (d₁ := false) (d₂ := false) (fs := fs) (fd := fd)
    (by rw [duties_x]; exact Finset.mem_singleton_self _) (by rw [duties_x]; exact Finset.mem_singleton_self _)
    () () N (by exact credit_eq b _) (amount_x m ρ c _ false) (amount_x m ρ (nxt c) _ false) O rfl (W := W)
    (by
      rw [payload_x, xPay_ix]
      unfold slc owns
      iintro H; iexists fs; isplitr
      · ipureintro; exact hfs
      · iexact H)
    (by
      rw [payload_x, xPay_ix, show back (nxt c) (h.val + true.toNat) = back c h.val from back_nxt c h]
      unfold slc owns
      iintro H; iexists _; isplitr
      · ipureintro; exact (View.read_write_univ (Val := Elt F) (v := (blkM b (back c h.val)).view) fd ((blkM b (back c h.val)).view.read (Elt F) fs)).trans hfs
      · iexact H))
  isplitr; · iapply (rec_inv m ρ K (c, (ix b false h).succ)); iexact Hrec
  isplitr; · iapply (rec_inv m ρ K (nxt c, (ix b true h).succ)); iexact Hrec
  isplitl [Hs]; · iexact Hs
  isplitl [Hd]; · iexact Hd
  isplitl [HO]; · iexact HO
  isplitl [HtS]; · iexact HtS
  isplitr; · iapply (rec_reached m ρ K (c, (ix b false h).succ)); iexact Hrec
  isplitl [HtR]; · iexact HtR
  iapply (rec_reached m ρ K (nxt c, (ix b true h).succ)); iexact Hrec

/-- A wait of device `c` on one of its transfer semaphores, owing only what is above it: it gives the block that
    semaphore stands for. -/
theorem wp_wait (K : Dev nD × Fin 29 → ℕ) (c : Dev nD) (b r : Bool) (h : Fin 7)
    (M : Memref sig .tc .vmem S2x4x256x64 .bf16) (hM : M = blkM b (back c h.val))
    (q : DmaSem sig) (hq : SemLoc.dma q = osem (ix b r h)) {hsrc hdst : M.view.WordExact}
    {α : Type} {Q : α → sProp 𝕄} {k : PUnit → Prog (TpuEff nD τ sig (Elt F) Λ₀ .tc) α}
    (O : CellTallies nD τ sig Unit) (W : Waits sig Unit)
    (hO : ∀ g u, 0 < O g u → g.1.2 = .tc ∧ (if r then 2 + h.val else 0) < lv g ()) :
    iprop(records m ρ K ∗ levAts L lv ∗ cred (tallyAt (xCell c (ix b r h)) () N) ∗ owes (c : Thread nD τ) O W
        ∗ atPos ER (xCell c (ix b r h)) 0 ∅ 0)
      ⊢ iprop(((owes (c : Thread nD τ) O (insert (osem (ix b r h), ()) W) ∗ atPos ER (xCell c (ix b r h)) (0 + 1) ∅ 0
              ∗ slc m ρ b c (back c (h.val + r.toNat)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q M M hsrc hdst) k) Q) := by
  subst hM
  have hq' : q = (⟨6 + (ix b r h).val, by have := (ix b r h).isLt; show 6 + (ix b r h).val < 34; omega⟩ : DmaSem sig) := by
    injection hq
  subst hq'
  iintro ⟨#Hrec, #Hlev, Hc, HO, Hat⟩
  iintro Hk
  iapply (Rounds.wp_wait_rest_token 𝒱₀ ER (Rd m ρ) (c : Thread nD τ) none (κ := K (c, (ix b r h).succ))
      (wpE_waitDma2_eq 𝒱₀ (c : Thread nD τ) none Set.univ) (Set.mem_univ _) () (O := O) (W := W) (R := 0) (m := 0) (T := ∅)
      (by rw [Nat.zero_add]; exact (credit_eq b _).trans (expect_x m ρ c (ix b r h)).symm)) $$ [Hc HO Hat]
  · isplitr; · iapply (rec_inv m ρ K (c, (ix b r h).succ)); iexact Hrec
    isplitl [Hc]; · rw [credit_eq]; iexact Hc
    isplitl [HO]; · iexact HO
    isplitr
    · iapply (mayWait_of c (osem (ix b r h)) (if r then 2 + h.val else 0) O (le_of_eq (lv_ix c b r h)) hO); iexact Hlev
    iexact Hat
  iintro ⟨HO, Hat, -, Hpay⟩
  ihave Hp := (Entails.of_eq ((rest_x m ρ c (ix b r h)).trans (xPay_ix m ρ c b r h))) $$ Hpay
  iapply Hk
  isplitl [HO]; · iexact HO
  isplitl [Hat]; · iexact Hat
  iexact Hp

/-! ## One round -/

/-- What round `h` of device `c` needs for buffer `b`, besides the block it sends: its positions at the two semaphores,
    the tokens to pay the send and the successor's receive with, the credit for its own receive, the room on the
    successor. -/
def need (c : Dev nD) (b : Bool) (h : Fin 7) : sProp 𝕄 :=
  iprop(atPos ER (xCell c (ix b false h)) 0 ∅ 0 ∗ atPos ER (xCell c (ix b true h)) 0 ∅ 0
    ∗ dutyTok ER (xCell c (ix b false h)) 0 false ∗ dutyTok ER (xCell (nxt c) (ix b true h)) 0 false
    ∗ cred (tallyAt (xCell c (ix b true h)) () N) ∗ room (F := F) b (nxt c) (back c h.val))

/-- What it leaves, besides the block it receives: the two semaphores' rounds over, the block it sent. -/
def left (c : Dev nD) (b : Bool) (h : Fin 7) : sProp 𝕄 :=
  iprop(atPos ER (xCell c (ix b false h)) (0 + 1) ∅ 0 ∗ atPos ER (xCell c (ix b true h)) (0 + 1) ∅ 0 ∗ slc m ρ b c (back c h.val))

/-- One round: both blocks out, both of the predecessor's in. -/
theorem wp_round (K : Dev nD × Fin 29 → ℕ) (c : Dev nD) (h : Fin 7) (O : CellTallies nD τ sig Unit)
    (hO : ∀ g u, 0 < O g u → g.1.2 = .tc ∧ 2 + h.val < lv g ()) (k : Body F) (Q : PUnit → sProp 𝕄) :
    iprop(records m ρ K ∗ levAts L lv ∗ (need c false h ∗ need c true h) ∗ slc m ρ false c (back c h.val) ∗ slc m ρ true c (back c h.val)
        ∗ (∃ W, owes (c : Thread nD τ) (O + tallyAt (xCell (nxt c) (ix true true h)) () N + tallyAt (xCell (nxt c) (ix false true h)) () N) W)
        ∗ (((left m ρ c false h ∗ left m ρ c true h) ∗ slc m ρ false c (back c (h.val + 1)) ∗ slc m ρ true c (back c (h.val + 1))
              ∗ ∃ W, owes (c : Thread nD τ) O W)
            -∗ wp frame (wpE (defs₀ (F := F)) 𝒱₀ (c : Thread nD τ) none) Set.univ k Q))
      ⊢ wp frame (wpE (defs₀ (F := F)) 𝒱₀ (c : Thread nD τ) none) Set.univ (exRound c h k) Q := by
  have hlow : ∀ g u, 0 < O g u → g.1.2 = .tc ∧ (if false then 2 + h.val else 0) < lv g () := fun g u hg =>
    ⟨(hO g u hg).1, by have := (hO g u hg).2; simp only [Bool.false_eq_true, if_false]; omega⟩
  have hhigh : ∀ g u, 0 < O g u → g.1.2 = .tc ∧ (if true then 2 + h.val else 0) < lv g () := fun g u hg =>
    ⟨(hO g u hg).1, by simp only [if_true]; exact (hO g u hg).2⟩
  unfold exRound need left
  iintro ⟨#Hrec, #Hlev, ⟨⟨HaKs, HaKr, HtKs, HtKr, HcK, HrK⟩, ⟨HaVs, HaVr, HtVs, HtVr, HcV, HrV⟩⟩, HsK, HsV, ⟨%W, HO⟩, Hk⟩
  iapply (wp_send m ρ K c _ (tgt_eq c false h) false h _ (curM_eq false c h) _ _ (semAt_eq false false h) (semAt_eq false true h)
    (O + tallyAt (xCell (nxt c) (ix true true h)) () N) W) $$ [HsK HrK HO HtKs HtKr]
  · isplitr; · iexact Hrec
    isplitl [HsK]; · iexact HsK
    isplitl [HrK]; · iexact HrK
    isplitl [HO]; · iexact HO
    isplitl [HtKs] <;> iassumption
  iintro ⟨HcKs, HO⟩
  iapply (wp_send m ρ K c _ (tgt_eq c true h) true h _ (curM_eq true c h) _ _ (semAt_eq true false h) (semAt_eq true true h) O W) $$ [HsV HrV HO HtVs HtVr]
  · isplitr; · iexact Hrec
    isplitl [HsV]; · iexact HsV
    isplitl [HrV]; · iexact HrV
    isplitl [HO]; · iexact HO
    isplitl [HtVs] <;> iassumption
  iintro ⟨HcVs, HO⟩
  iapply (wp_wait m ρ K c false false h _ (curM_eq false c h) _ (semAt_eq false false h) O _ hlow) $$ [HcKs HO HaKs]
  · isplitr; · iexact Hrec
    isplitr; · iexact Hlev
    isplitl [HcKs]; · iexact HcKs
    isplitl [HO] <;> iassumption
  iintro ⟨HO, HaKs, HsK⟩
  iapply (wp_wait m ρ K c false true h _ (curM_eq false c h) _ (semAt_eq false true h) O _ hhigh) $$ [HcK HO HaKr]
  · isplitr; · iexact Hrec
    isplitr; · iexact Hlev
    isplitl [HcK]; · iexact HcK
    isplitl [HO] <;> iassumption
  iintro ⟨HO, HaKr, HnK⟩
  iapply (wp_wait m ρ K c true false h _ (curM_eq true c h) _ (semAt_eq true false h) O _ hlow) $$ [HcVs HO HaVs]
  · isplitr; · iexact Hrec
    isplitr; · iexact Hlev
    isplitl [HcVs]; · iexact HcVs
    isplitl [HO] <;> iassumption
  iintro ⟨HO, HaVs, HsV⟩
  iapply (wp_wait m ρ K c true true h _ (curM_eq true c h) _ (semAt_eq true true h) O _ hhigh) $$ [HcV HO HaVr]
  · isplitr; · iexact Hrec
    isplitr; · iexact Hlev
    isplitl [HcV]; · iexact HcV
    isplitl [HO] <;> iassumption
  iintro ⟨HO, HaVr, HnV⟩
  iapply Hk
  isplitl [HaKs HaKr HsK HaVs HaVr HsV]
  · isplitl [HaKs HaKr HsK]
    · isplitl [HaKs]; · iexact HaKs
      isplitl [HaKr]; · iexact HaKr
      iexact HsK
    · isplitl [HaVs]; · iexact HaVs
      isplitl [HaVr]; · iexact HaVr
      iexact HsV
  isplitl [HnK]; · iexact HnK
  isplitl [HnV]; · iexact HnV
  iexists _; iexact HO

/-! ## The seven -/

/-- Something of each of the last `n` rounds. -/
def lastN (Φ : Fin 7 → sProp 𝕄) : ℕ → sProp 𝕄
  | 0 => iprop(emp)
  | n + 1 => iprop(Φ (owe.rnd n) ∗ lastN Φ n)

/-- Something of each of the seven rounds, in order. -/
theorem lastN_seven (Φ : Fin 7 → sProp 𝕄) : bigSep Finset.univ Φ = lastN Φ 7 := by
  rw [bigSep_univ_eq_bigSepL [0, 1, 2, 3, 4, 5, 6] (by decide) (by decide)]
  simp only [bigSepL_cons_cons, bigSepL_singleton]
  show _ = iprop(Φ 0 ∗ Φ 1 ∗ Φ 2 ∗ Φ 3 ∗ Φ 4 ∗ Φ 5 ∗ Φ 6 ∗ emp)
  rw [sep_emp_eq'']
  rfl

/-- The last `n` rounds, from the blocks received before them to the blocks received in the last. -/
theorem wp_rounds (K : Dev nD × Fin 29 → ℕ) (c : Dev nD) (k : Body F) (Q : PUnit → sProp 𝕄) : ∀ n, n ≤ 7 →
    iprop(records m ρ K ∗ levAts L lv ∗ lastN (fun h => iprop(need c false h ∗ need c true h)) n
        ∗ slc m ρ false c (back c (7 - n)) ∗ slc m ρ true c (back c (7 - n)) ∗ (∃ W, owes (c : Thread nD τ) (owe c n) W)
        ∗ ((lastN (fun h => iprop(left m ρ c false h ∗ left m ρ c true h)) n ∗ slc m ρ false c (back c 7) ∗ slc m ρ true c (back c 7)
              ∗ ∃ W, owes (c : Thread nD τ) 0 W)
            -∗ wp frame (wpE (defs₀ (F := F)) 𝒱₀ (c : Thread nD τ) none) Set.univ k Q))
      ⊢ wp frame (wpE (defs₀ (F := F)) 𝒱₀ (c : Thread nD τ) none) Set.univ (rounds c n k) Q
  | 0, _ => by
    unfold rounds lastN
    iintro ⟨-, -, -, HK, HV, HO, Hk⟩
    iapply Hk
    isplitr; · iempintro
    isplitl [HK]; · iexact HK
    isplitl [HV]; · iexact HV
    iexact HO
  | n + 1, hn => by
    have hr : 7 - (n + 1) = (owe.rnd n).val := by show _ = 6 - n; omega
    have hs : 7 - n = (owe.rnd n).val + 1 := by show _ = 6 - n + 1; omega
    have ih := wp_rounds K c k Q n (Nat.le_of_succ_le hn)
    rw [hs] at ih
    rw [hr]
    unfold rounds lastN owe
    iintro ⟨#Hrec, #Hlev, ⟨Hn, Hns⟩, HK, HV, HO, Hk⟩
    iapply (wp_round m ρ K c (owe.rnd n) (owe c n) (fun g u hg => by
      obtain ⟨h1, h2⟩ := owe_pos (Nat.le_of_succ_le hn) hg
      have : (owe.rnd n).val = 6 - n := rfl
      exact ⟨h1, by omega⟩) (rounds c n k) Q)
    isplitr; · iexact Hrec
    isplitr; · iexact Hlev
    isplitl [Hn]; · iexact Hn
    isplitl [HK]; · iexact HK
    isplitl [HV]; · iexact HV
    isplitl [HO]; · iexact HO
    iintro ⟨Hl, HK, HV, HO⟩
    iapply ih
    isplitr; · iexact Hrec
    isplitr; · iexact Hlev
    isplitl [Hns]; · iexact Hns
    isplitl [HK]; · iexact HK
    isplitl [HV]; · iexact HV
    isplitl [HO]; · iexact HO
    iintro ⟨Hls, Hrest⟩
    iapply Hk
    isplitl [Hl Hls]
    · isplitl [Hl] <;> iassumption
    iexact Hrest

end Cert.Gather

end
-- ==== Proof.Compute.lean ====
/-
# The computation on the gathered rows

After the exchange a device computes its rows of the result, batch by batch: it loads its rows of `x`, the projections and
each head's gathered rows, and stores two blocks of 256 rows.
-/
module

public import proofs.«01_k».proof.Proof.Exchange

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The program -/

/-- The buffers of the computation, by name. -/
abbrev xM : Memref sig .tc .vmem S2x256x512 .bf16 := Memref.whole cc0_stg0_0
/-- See `xM`. -/
abbrev wqM : Memref sig .tc .vmem S512x256 .bf16 := Memref.whole cc0_stg1_0
/-- See `xM`. -/
abbrev kM : Memref sig .tc .vmem S2x256x4x64 .bf16 := Memref.whole cc0_stg2_0
/-- See `xM`. -/
abbrev vM : Memref sig .tc .vmem S2x256x4x64 .bf16 := Memref.whole cc0_stg3_0
/-- See `xM`. -/
abbrev woM : Memref sig .tc .vmem S256x512 .bf16 := Memref.whole cc0_stg4_0
/-- See `xM`. -/
abbrev outM : Memref sig .tc .vmem S2x256x512 .f32 := Memref.whole cc0_stg5_0
/-- See `xM`. -/
abbrev gkM : Memref sig .tc .vmem S2x4x2048x64 .bf16 := Memref.whole cc0_scratch0
/-- See `xM`. -/
abbrev gvM : Memref sig .tc .vmem S2x4x2048x64 .bf16 := Memref.whole cc0_scratch1

/-- One of the kernel's printed parts, given its buffers. -/
abbrev onBufs {α : Type 1} (p : (arg0 : Memref sig .tc .vmem S2x256x512 .bf16) → arg0.IsWhole → (arg1 : Memref sig .tc .vmem S512x256 .bf16) → arg1.IsWhole → (arg2 : Memref sig .tc .vmem S2x256x4x64 .bf16) → arg2.IsWhole → (arg3 : Memref sig .tc .vmem S2x256x4x64 .bf16) → arg3.IsWhole → (arg4 : Memref sig .tc .vmem S256x512 .bf16) → arg4.IsWhole → (arg5 : Memref sig .tc .vmem S2x256x512 .f32) → arg5.IsWhole → (arg6 : Memref sig .tc .vmem S2x4x2048x64 .bf16) → arg6.IsWhole → (arg7 : Memref sig .tc .vmem S2x4x2048x64 .bf16) → arg7.IsWhole → DmaSems sig S7 → DmaSems sig S7 → DmaSems sig S7 → DmaSems sig S7 → α) : α :=
  p xM (Memref.isWhole_whole _) wqM (Memref.isWhole_whole _) kM (Memref.isWhole_whole _) vM (Memref.isWhole_whole _) woM (Memref.isWhole_whole _)
    outM (Memref.isWhole_whole _) gkM (Memref.isWhole_whole _) gvM (Memref.isWhole_whole _) cc0_scratch2 cc0_scratch3 cc0_scratch4 cc0_scratch5

/-- What the body does after the exchange, `dw` being its position on the ring as a word. -/
def compute (dw : BitVec 32) : Body F := do
  let ⟨v323, v325, v327, v332, v354, v356⟩ ← onBufs (k0_part15_skel (F := F)) (k0_pay5 dw) (k0_pay6 dw)
  let ⟨v376, v394⟩ ← onBufs (k0_part16_skel (F := F)) v323 v332 v356
  let v429 ← onBufs (k0_part17_skel (F := F)) v323 v325 v327 v332 v354 v376 v394
  let ⟨v431, v453, v467⟩ ← onBufs (k0_part18_skel (F := F)) v323 v429
  let ⟨v475, v497, v502⟩ ← onBufs (k0_part19_skel (F := F)) v323 v431 v467
  let v516 : Vec F S1x1x2048x64 .bf16 ← Prog.lift (.load gvM (Rect.unit (s := S2x4x2048x64) ![1, 3, 0, 0] S1x1x2048x64.size inb_S2x4x2048x64_S1x1x2048x64_1_3_0_0).toLoadRect (View.loadsAt_vmem h_S1x1x2048x64))
  let _ : Vec F S1x256x512 .f32 ← Prog.lift (.load outM (Rect.unit (s := S2x256x512) ![1, 0, 0] S1x256x512.size inb_S2x256x512_S1x256x512_1_0_0).toLoadRect (View.loadsAt_vmem h_S1x256x512))
  Prog.lift (.store outM (Rect.unit (s := S2x256x512) ![1, 0, 0] S1x256x512.size inb_S2x256x512_S1x256x512_1_0_0) (k0_pay1 v323 v327 v453 v475 v497 v502 v516) Finset.univ (View.stores_vmem_bits_univ h_S1x256x512 rfl) (.inl rfl))
  pure ⟨⟩

/-! ## The values -/

/-- A batch's rows lie within the staged array. -/
theorem row_inb (i : Fin 2) : ∀ a, (![i.val, 0, 0] : Fin 3 → ℕ) a + S1x256x512.size a ≤ S2x256x512.size a := by
  revert i; decide
/-- A head's rows of a batch lie within the gathered buffer. -/
theorem head_inb (i : Fin 2) (n : Fin 4) : ∀ a, (![i.val, n.val, 0, 0] : Fin 4 → ℕ) a + S1x1x2048x64.size a ≤ S2x4x2048x64.size a := by
  revert i n; decide

/-- The rows of a batch. -/
abbrev rowR (i : Fin 2) : Rect S2x256x512 := Rect.unit (s := S2x256x512) ![i.val, 0, 0] S1x256x512.size (row_inb i)
/-- The rows of a batch and head in a gathered buffer. -/
abbrev headR (i : Fin 2) (n : Fin 4) : Rect S2x4x2048x64 :=
  Rect.unit (s := S2x4x2048x64) ![i.val, n.val, 0, 0] S1x1x2048x64.size (head_inb i n)

/-- One batch of `x`'s rows, as loaded. -/
def xRow (X : Vec F S2x256x512 .bf16) (i : Fin 2) : Vec F S1x256x512 .bf16 := fun j => X ((rowR i).emb j)

/-- One batch and head of a gathered buffer, as loaded. -/
def gHead (G : Vec F S2x4x2048x64 .bf16) (i : Fin 2) (n : Fin 4) : Vec F S1x1x2048x64 .bf16 := fun j => G ((headR i n).emb j)

/-- Where a batch's rows are loaded from and stored to. -/
theorem row_emb (i : Fin 2) (j : S1x256x512.Idx) :
    (rowR i).emb j = (fun a => match a with
      | ⟨0, _⟩ => i
      | ⟨1, _⟩ => j (1 : Fin 3)
      | ⟨2, _⟩ => j (2 : Fin 3) : S2x256x512.Idx) := by
  funext a
  match a with
  | ⟨0, _⟩ => exact Fin.ext (by rw [Rect.emb_apply]; have h : (j (0 : Fin 3)).val < 1 := (j (0 : Fin 3)).isLt; show i.val + 1 * (j (0 : Fin 3)).val = i.val; omega)
  | ⟨1, _⟩ => exact Fin.ext (by rw [Rect.emb_apply]; show 0 + 1 * (j (1 : Fin 3)).val = (j (1 : Fin 3)).val; omega)
  | ⟨2, _⟩ => exact Fin.ext (by rw [Rect.emb_apply]; show 0 + 1 * (j (2 : Fin 3)).val = (j (2 : Fin 3)).val; omega)

/-- Where a head's rows are loaded from. -/
theorem head_emb (i : Fin 2) (n : Fin 4) (j : S1x1x2048x64.Idx) :
    (headR i n).emb j = (fun a => match a with
      | ⟨0, _⟩ => i
      | ⟨1, _⟩ => n
      | ⟨2, _⟩ => j (2 : Fin 4)
      | ⟨3, _⟩ => j (3 : Fin 4) : S2x4x2048x64.Idx) := by
  funext a
  match a with
  | ⟨0, _⟩ => exact Fin.ext (by rw [Rect.emb_apply]; have h : (j (0 : Fin 4)).val < 1 := (j (0 : Fin 4)).isLt; show i.val + 1 * (j (0 : Fin 4)).val = i.val; omega)
  | ⟨1, _⟩ => exact Fin.ext (by rw [Rect.emb_apply]; have h : (j (1 : Fin 4)).val < 1 := (j (1 : Fin 4)).isLt; show n.val + 1 * (j (1 : Fin 4)).val = n.val; omega)
  | ⟨2, _⟩ => exact Fin.ext (by rw [Rect.emb_apply]; show 0 + 1 * (j (2 : Fin 4)).val = (j (2 : Fin 4)).val; omega)
  | ⟨3, _⟩ => exact Fin.ext (by rw [Rect.emb_apply]; show 0 + 1 * (j (3 : Fin 4)).val = (j (3 : Fin 4)).val; omega)

/-- An element of the result as an element of its batch's rows. -/
def inRow (j : S2x256x512.Idx) : S1x256x512.Idx := fun a => match a with
  | ⟨0, _⟩ => ⟨0, Nat.one_pos⟩
  | ⟨1, _⟩ => j (1 : Fin 3)
  | ⟨2, _⟩ => j (2 : Fin 3)

/-- That element is where it was. -/
theorem row_inRow (i : Fin 2) (j : S2x256x512.Idx) (e : (j (0 : Fin 3)).val = i.val) : (rowR i).emb (inRow j) = j := by
  rw [row_emb]
  funext a
  match a with
  | ⟨0, _⟩ => exact Fin.ext e.symm
  | ⟨1, _⟩ => rfl
  | ⟨2, _⟩ => rfl

/-- Two rows as one buffer. -/
def both (w₀ w₁ : Vec F S1x256x512 .f32) : Vec F S2x256x512 .f32 :=
  fun j => (if (j (0 : Fin 3)).val = 0 then w₀ else w₁) (inRow j)

/-- In batch zero the result is the first of the two stored arrays. -/
theorem both_zero (w₀ w₁ : Vec F S1x256x512 .f32) (j : S2x256x512.Idx) (h : (j (0 : Fin 3)).val = 0) : both w₀ w₁ j = w₀ (inRow j) := by
  unfold both; rw [if_pos h]

/-- In batch one the result is the second of the two stored arrays. -/
theorem both_one (w₀ w₁ : Vec F S1x256x512 .f32) (j : S2x256x512.Idx) (h : ¬(j (0 : Fin 3)).val = 0) : both w₀ w₁ j = w₁ (inRow j) := by
  unfold both; rw [if_neg h]

section Values
variable (dw : BitVec 32) (X : Vec F S2x256x512 .bf16) (Wq : Vec F S512x256 .bf16) (Wo : Vec F S256x512 .bf16) (GK GV : Vec F S2x4x2048x64 .bf16)

/-- The mask, as the body computes it. -/
def maskW : IVec S256x2048 1 := k0_pay7 (k0_pay5 dw) (k0_pay6 dw)

/-- The first batch's rows of the result, as the body computes them. -/
def out0 : Vec F S1x256x512 .f32 :=
  k0_pay15 (maskW dw) (k0_pay9 Wo) (k0_pay10 Wq (xRow X 0))
    (k0_pay11 (k0_pay5 dw) (k0_pay6 dw) Wq (xRow X 0) (gHead GK 0 0) (gHead GV 0 0))
    (k0_pay13 (maskW dw) (k0_pay12 Wq (xRow X 0)) (gHead GK 0 1) (gHead GV 0 1))
    (k0_pay14 (maskW dw) (k0_pay10 Wq (xRow X 0)) (gHead GK 0 2)) (gHead GV 0 2) (gHead GK 0 3) (gHead GV 0 3)

/-- The second batch's projected rows. -/
def q1 : FVec F S256x256 .f32 := k0_pay16 (k0_pay8 Wq) (xRow X 1)

/-- The second batch's rows of the result. -/
def out1 : Vec F S1x256x512 .f32 :=
  k0_pay1 (maskW dw) (k0_pay9 Wo) (k0_pay18 (maskW dw) (q1 X Wq) (gHead GK 1 0) (gHead GV 1 0))
    (k0_pay20 (k0_pay19 (maskW dw) (q1 X Wq) (gHead GK 1 1)) (gHead GV 1 1))
    (k0_pay21 (maskW dw) (k0_pay17 (q1 X Wq)) (gHead GK 1 2) (gHead GV 1 2))
    (k0_pay22 (k0_pay17 (q1 X Wq)) (gHead GK 1 3)) (gHead GV 1 3)

/-- The rows of the result: both batches. -/
def outV : Vec F S2x256x512 .f32 := both (out0 dw X Wq Wo GK GV) (out1 dw X Wq Wo GK GV)

end Values

/-! ## What the loads read and the stores leave -/

/-- The zero offset on two axes, as the constant function. -/
theorem zero2 : (![0, 0] : Fin 2 → ℕ) = fun _ => 0 := funext fun a => by fin_cases a <;> rfl
/-- The zero offset on four axes, as the constant function. -/
theorem zero4 : (![0, 0, 0, 0] : Fin 4 → ℕ) = fun _ => 0 := funext fun a => by fin_cases a <;> rfl

/-- Two stores, one of each batch's rows, leave them read batch by batch. -/
theorem read_out {sig' : RefSig} {κ : Kind} {sp : Space} (v : View sig' κ sp S2x256x512 .f32) (f : v.ty.Contents (Elt F)) (w₀ w₁ : Vec F S1x256x512 .f32) :
    v.read (Elt F) (v.writes (Elt F) f [⟨rowR 1, w₁⟩, ⟨rowR 0, w₀⟩])
      = both w₀ w₁ := by
  funext j
  have h0 : (j (0 : Fin 3)).val < 2 := (j (0 : Fin 3)).isLt
  by_cases h : (j (0 : Fin 3)).val = 0
  · rw [both_zero w₀ w₁ j h]
    refine (View.read_writes_cons_miss_of_axis v f ⟨rowR 1, w₁⟩ [⟨rowR 0, w₀⟩] j (0 : Fin 3) 1 1 rfl rfl rfl (Or.inl (by omega))).trans ?_
    exact View.read_writes_cons_hit v f (rowR 0) w₀ [] (inRow j) j (row_inRow 0 j h)
  · rw [both_one w₀ w₁ j h]
    exact View.read_writes_cons_hit v f (rowR 1) w₁ [⟨rowR 0, w₀⟩] (inRow j) j (row_inRow 1 j (by show _ = 1; omega))

/-- The two stores cover the result's buffer. -/
theorem out_writes (f : Vec F S2x256x512 .f32) (w₀ w₁ : Vec F S1x256x512 .f32) :
    (outM : Memref sig .tc .vmem S2x256x512 .f32).view.writes (Elt F) f [⟨rowR 1, w₁⟩, ⟨rowR 0, w₀⟩] = both w₀ w₁ := by
  have h := read_out (outM : Memref sig .tc .vmem S2x256x512 .f32).view f w₀ w₁
  simp only [Memref.view_whole, View.read_whole] at h
  exact h

/-! ## The run -/

/-- The whole of a buffer at the full share. -/
abbrev held {s : Shape} {e : EltTy} (c : Dev nD) (M : Memref sig .tc .vmem s e) (f : Buf (Elt F) (M.view.loc (c : Thread nD τ))) : sProp 𝕄 :=
  M.view.loc (c : Thread nD τ) ↦{fullShare} f

set_option maxHeartbeats 4000000 in
/-- The computation leaves the result's rows, and everything it reads as it was. -/
theorem wp_compute (c : Dev nD) (dw : BitVec 32) (X : Vec F S2x256x512 .bf16) (Wq : Vec F S512x256 .bf16) (Wo : Vec F S256x512 .bf16)
    (GK GV : Vec F S2x4x2048x64 .bf16) (f : Vec F S2x256x512 .f32) (Q : PUnit → sProp 𝕄) :
    iprop(held c xM X ∗ held c wqM Wq ∗ held c woM Wo ∗ held c gkM GK ∗ held c gvM GV ∗ held c outM f
        ∗ ((held c xM X ∗ held c wqM Wq ∗ held c woM Wo ∗ held c gkM GK ∗ held c gvM GV ∗ held c outM (outV dw X Wq Wo GK GV)) -∗ Q ⟨⟩))
      ⊢ wp frame (wpE (defs₀ (F := F)) 𝒱₀ (c : Thread nD τ) none) Set.univ (compute dw) Q := by
  unfold compute onBufs k0_part15_skel k0_part16_skel k0_part17_skel k0_part18_skel k0_part19_skel
  iintro ⟨HX, HQ, HO, HK, HV, Hf, Hk⟩
  sl_exec
  have hq : (wqM : Memref sig .tc .vmem S512x256 .bf16).view.readAt (Elt F) (Rect.unit (s := S512x256) ![0, 0] S512x256.size inb_S512x256_S512x256_0_0).toLoadRect Wq = Wq :=
    Memref.readAt_unit_zero (Elt F) cc0_stg1_0 zero2 _ _
  have ho : (woM : Memref sig .tc .vmem S256x512 .bf16).view.readAt (Elt F) (Rect.unit (s := S256x512) ![0, 0] S256x512.size inb_S256x512_S256x512_0_0).toLoadRect Wo = Wo :=
    Memref.readAt_unit_zero (Elt F) cc0_stg4_0 zero2 _ _
  have hf := out_writes f (out0 dw X Wq Wo GK GV) (out1 dw X Wq Wo GK GV)
  rw [hq, ho, wp_ret]
  imodintro
  iapply Hk
  isplitl [HX]; · iexact HX
  isplitl [HQ]; · iexact HQ
  isplitl [HO]; · iexact HO
  isplitl [HK]; · iexact HK
  isplitl [HV]; · iexact HV
  unfold outV
  rw [← hf]
  iexact Hf

end Cert.Gather

end
-- ==== Proof.Blocks.lean ====
/-
# The gathered buffers and their blocks

A gathered buffer held whole is its eight blocks held one by one. At the start a device keeps its own block and offers the
room of the other seven; at the end the eight blocks, gathered, are the whole buffer. Beside it: the 28 transfer semaphores
counted by round, buffer and direction, and what a device's rounds take besides the room.
-/
module

public import proofs.«01_k».proof.Proof.Compute

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Counting -/

/-- The number of a transfer semaphore from its round, its buffer and its direction. -/
def ixOf (x : Fin 7 × Bool × Bool) : Fin 28 := ix x.2.1 x.2.2 x.1

/-- Round, buffer and direction number the 28 transfer semaphores, each once. -/
theorem ixOf_bijective : Function.Bijective ixOf :=
  (Fintype.bijective_iff_injective_and_card _).mpr
    ⟨fun ⟨h, b, r⟩ ⟨h', b', r'⟩ e => by obtain ⟨rfl, rfl, rfl⟩ := ix_injective e; rfl, by decide⟩

/-- Something of every transfer semaphore, round by round. -/
theorem bigSep_ix (Φ : Fin 28 → sProp 𝕄) :
    bigSep Finset.univ Φ = bigSep Finset.univ fun h : Fin 7 =>
      iprop((Φ (ix false false h) ∗ Φ (ix false true h)) ∗ Φ (ix true false h) ∗ Φ (ix true true h)) := by
  have two (Ψ : Bool → sProp 𝕄) : bigSep Finset.univ Ψ = iprop(Ψ false ∗ Ψ true) :=
    bigSep_univ_eq_bigSepL [false, true] (by decide) (by decide) Ψ
  rw [bigSep_univ_equiv (Equiv.ofBijective ixOf ixOf_bijective) Φ, bigSep_univ_prod]
  refine bigSep_congr fun h _ => ?_
  rw [bigSep_univ_prod, two, two, two]
  rfl

/-- Something of each of eight, the last apart. -/
theorem bigSep_last8 (Φ : Fin 8 → sProp 𝕄) :
    bigSep Finset.univ Φ = iprop((bigSep Finset.univ fun h : Fin 7 => Φ h.castSucc) ∗ Φ (Fin.last 7)) := by
  rw [Fin.univ_castSuccEmb, Finset.cons_eq_insert, BI.bigSep_insert (by rw [Finset.mem_map]; rintro ⟨x, _, h⟩; exact Fin.castSucc_ne_last x h), BI.bigSep_map]
  exact BI.equiv_iff.mp ⟨sep_comm, sep_comm⟩

/-- Something of each of several, the first apart. -/
theorem bigSep_first {n : ℕ} (Φ : Fin (n + 1) → sProp 𝕄) :
    bigSep Finset.univ Φ = iprop(Φ 0 ∗ bigSep Finset.univ fun h : Fin n => Φ h.succ) := by
  rw [Fin.univ_succ, Finset.cons_eq_insert,
    BI.bigSep_insert (by rw [Finset.mem_map]; rintro ⟨x, _, h⟩; exact Fin.succ_ne_zero x h), BI.bigSep_map]
  rfl

/-! ## A gathered buffer and its blocks -/

/-- Contents of a gathered buffer. -/
def fill : (b : Bool) → Vec F S2x4x2048x64 .bf16 → (bufM b).view.ty.Contents (Elt F)
  | false, X => X
  | true, X => X

/-- Contents made from an array read as that array. -/
theorem read_fill (b : Bool) (X : Vec F S2x4x2048x64 .bf16) : (bufM b).view.read (Elt F) (fill b X) = X := by
  cases b <;> rfl

/-- What contents read as makes those contents again. -/
theorem fill_read (b : Bool) (f : (bufM b).view.ty.Contents (Elt F)) : fill b ((bufM b).view.read (Elt F) f) = f := by
  cases b <;> rfl

/-- A gathered buffer's elements are all there are. -/
theorem set_buf (b : Bool) : (bufM b).view.set = Finset.univ := by
  cases b <;> simp only [bufM, Memref.view_whole, View.set_whole]

/-- A gathered buffer held whole is its blocks, each at what it reads. -/
theorem held_blocks (b : Bool) (c : Dev nD) (f : (bufM b).view.ty.Contents (Elt F)) :
    (held c (bufM b) f : sProp 𝕄)
      = bigSep Finset.univ fun o : Dev nD => owns (c : Thread nD τ) (blkM b o) fullShare fun j => (bufM b).view.read (Elt F) f ((rows o).emb j) := by
  have h := pointsTo_rects (Ix := Unit) (Name := ℕ) (U := UU) (Lvl := ℕ) (c : Thread nD τ) (bufM b) fullShare rows (fun _ _ => rfl) rows_disjoint rows_cover f
  rw [set_buf] at h
  exact h

/-- A block owned at some contents is room. -/
theorem room_of_owns (b : Bool) (c o : Dev nD) (X) : (owns (c : Thread nD τ) (blkM b o) fullShare X : sProp 𝕄) ⊢ room (F := F) b c o := by
  unfold owns room
  iintro ⟨%f, -, H⟩
  iexists f
  iexact H

/-- A buffer whose own rows hold what the device contributes: its own block, and the room of the other seven, counted back
    from the device. -/
theorem buf_split (b : Bool) (c : Dev nD) (f : (bufM b).view.ty.Contents (Elt F))
    (hf : ∀ j, (bufM b).view.read (Elt F) f ((rows c).emb j) = ownBlk m ρ b c j) :
    (held c (bufM b) f : sProp 𝕄) ⊢ iprop(slc m ρ b c (back c 0) ∗ bigSep Finset.univ fun h : Fin 7 => room (F := F) b c (back c (h.val + 1))) := by
  rw [held_blocks, bigSep_univ_equiv (backEquiv c), bigSep_first]
  refine BI.sep_mono ?_ (bigSep_mono fun h _ => room_of_owns b c (back c (h.val + 1)) _)
  show (owns (c : Thread nD τ) (blkM b (back c 0)) fullShare (fun j => (bufM b).view.read (Elt F) f ((rows (back c 0)).emb j)) : sProp 𝕄) ⊢ _
  unfold slc
  rw [back_zero]
  refine Entails.of_eq (congrArg (owns (c : Thread nD τ) (blkM b c) fullShare) (funext fun j => ?_))
  rw [hf, gath_rows]

/-- The eight blocks, gathered, are the whole buffer. -/
theorem buf_join (b : Bool) (c : Dev nD) :
    iprop((bigSep Finset.univ fun h : Fin 7 => slc m ρ b c (back c h.val)) ∗ slc m ρ b c (back c 7)) ⊢ (held c (bufM b) (fill b (gath m ρ b)) : sProp 𝕄) := by
  rw [held_blocks, bigSep_univ_equiv (backEquiv c), bigSep_last8, read_fill]
  exact BI.Entails.refl _

/-- The room of a device's buffers is what it hands its predecessor at the barrier. -/
theorem barPay_prv (c : Dev nD) :
    iprop((bigSep Finset.univ fun h : Fin 7 => room (F := F) false c (back c (h.val + 1))) ∗ bigSep Finset.univ fun h : Fin 7 => room (F := F) true c (back c (h.val + 1)))
      ⊢ (barPay (prv c) : sProp 𝕄) := by
  unfold barPay
  rw [← bigSep_sep']
  refine Entails.of_eq (bigSep_congr fun h _ => ?_)
  rw [← back_nxt (prv c) h, nxt_prv]

/-! ## What the rounds take and leave -/

/-- What a round of a buffer takes besides the room on the successor. -/
def pre (c : Dev nD) (b : Bool) (h : Fin 7) : sProp 𝕄 :=
  iprop(atPos ER (xCell c (ix b false h)) 0 ∅ 0 ∗ atPos ER (xCell c (ix b true h)) 0 ∅ 0
    ∗ dutyTok ER (xCell c (ix b false h)) 0 false ∗ dutyTok ER (xCell (nxt c) (ix b true h)) 0 false
    ∗ cred (tallyAt (xCell c (ix b true h)) () N))

/-- With the room it is all a round takes. -/
theorem need_of_pre (c : Dev nD) (b : Bool) (h : Fin 7) : iprop(pre c b h ∗ room (F := F) b (nxt c) (back c h.val)) ⊢ (need c b h : sProp 𝕄) := by
  unfold pre need
  iintro ⟨⟨H1, H2, H3, H4, H5⟩, H6⟩
  isplitl [H1]; · iexact H1
  isplitl [H2]; · iexact H2
  isplitl [H3]; · iexact H3
  isplitl [H4]; · iexact H4
  isplitl [H5] <;> iassumption

/-- For both buffers. -/
theorem needs_one (c : Dev nD) (h : Fin 7) :
    iprop((pre c false h ∗ pre c true h) ∗ room (F := F) false (nxt c) (back c h.val) ∗ room (F := F) true (nxt c) (back c h.val))
      ⊢ (iprop(need c false h ∗ need c true h) : sProp 𝕄) := by
  iintro ⟨⟨HK, HV⟩, HrK, HrV⟩
  isplitl [HK HrK]
  · iapply (need_of_pre c false h); isplitl [HK] <;> iassumption
  · iapply (need_of_pre c true h); isplitl [HV] <;> iassumption

/-- So it is for all the rounds, the room coming from the successor at the barrier. -/
theorem needs_of_pres (c : Dev nD) :
    iprop((bigSep Finset.univ fun h : Fin 7 => iprop(pre c false h ∗ pre c true h)) ∗ barPay c)
      ⊢ (lastN (fun h => iprop(need c false h ∗ need c true h)) 7 : sProp 𝕄) := by
  unfold barPay
  rw [← bigSep_sep', ← lastN_seven]
  exact bigSep_mono fun h _ => needs_one c h

/-- What a round leaves: its semaphores' rounds over, and the blocks sent. -/
theorem left_one (c : Dev nD) (h : Fin 7) :
    (iprop(left m ρ c false h ∗ left m ρ c true h) : sProp 𝕄)
      ⊢ iprop(((atPos ER (xCell c (ix false false h)) (0 + 1) ∅ 0 ∗ atPos ER (xCell c (ix false true h)) (0 + 1) ∅ 0)
          ∗ atPos ER (xCell c (ix true false h)) (0 + 1) ∅ 0 ∗ atPos ER (xCell c (ix true true h)) (0 + 1) ∅ 0)
        ∗ slc m ρ false c (back c h.val) ∗ slc m ρ true c (back c h.val)) := by
  unfold left
  iintro ⟨⟨H1, H2, H3⟩, H4, H5, H6⟩
  isplitl [H1 H2 H4 H5]
  · isplitl [H1 H2]
    · isplitl [H1] <;> iassumption
    · isplitl [H4] <;> iassumption
  isplitl [H3] <;> iassumption

/-- What a device's rounds leave: every transfer semaphore's round over, and the blocks sent. -/
theorem lefts_split (c : Dev nD) :
    (lastN (fun h => iprop(left m ρ c false h ∗ left m ρ c true h)) 7 : sProp 𝕄)
      ⊢ iprop((bigSep Finset.univ fun k : Fin 28 => atPos ER (xCell c k) (0 + 1) ∅ 0)
          ∗ (bigSep Finset.univ fun h : Fin 7 => slc m ρ false c (back c h.val)) ∗ bigSep Finset.univ fun h : Fin 7 => slc m ρ true c (back c h.val)) := by
  rw [← lastN_seven, bigSep_ix, ← bigSep_sep', ← bigSep_sep']
  exact bigSep_mono fun h _ => left_one m ρ c h

/-- A persistent fact serves each of several. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A semaphore whose round is over closes: its counter at zero is the device's again. -/
theorem close_one (K : Dev nD × Fin 29 → ℕ) (ck : Dev nD × Fin 29) :
    iprop(records m ρ K ∗ atPos ER (kcell ck) (0 + 1) ∅ 0) ⊢ (|={Set.univ}=> semVal (kcell ck) 0 : sProp 𝕄) := by
  iintro ⟨#Hrec, Hat⟩
  iapply (Rounds.cell_close ER (Rd m ρ) (Set.mem_univ (K ck)) (fun h => h) (R := 0 + 1) (duties_later m ρ (kcell ck)))
  isplitr; · iapply (rec_inv m ρ K ck); iexact Hrec
  iexact Hat

/-- All the transfer semaphores of a device close. -/
theorem close_all (K : Dev nD × Fin 29 → ℕ) (c : Dev nD) :
    iprop(records m ρ K ∗ bigSep Finset.univ fun k : Fin 28 => atPos ER (xCell c k) (0 + 1) ∅ 0)
      ⊢ (|={Set.univ}=> bigSep Finset.univ fun k : Fin 28 => semVal (xCell c k) 0 : sProp 𝕄) :=
  (bigSep_with fun k _ => close_one m ρ K (c, k.succ)).trans (bigSep_fupd _ _)

end Cert.Gather

end
-- ==== Proof.Body.lean ====
/-
# The kernel's body

What a device holds when the body starts and when it ends, and the body run from the one to the other: the device's own
rows into the gathered buffers, the barrier with both neighbours, the seven rounds, the computation.
-/
module

public import proofs.«01_k».proof.Proof.Blocks

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The contents -/

/-- What the staging buffers of `x`, `wq` and `wo` hold on a device when the kernel starts: see `stgK`. -/
def stgX (c : Dev nD) : Vec F S2x256x512 .bf16 :=
  (win0_0.blk (0 : Fin 1)).view.read (Elt F) ((s₀ m ρ).mem ((c : Thread nD τ).loc main_arg0))
/-- See `stgX`. -/
def stgWq (c : Dev nD) : Vec F S512x256 .bf16 :=
  (win0_1.blk (0 : Fin 1)).view.read (Elt F) ((s₀ m ρ).mem ((c : Thread nD τ).loc main_arg1))
/-- See `stgX`. -/
def stgWo (c : Dev nD) : Vec F S256x512 .bf16 :=
  (win0_4.blk (0 : Fin 1)).view.read (Elt F) ((s₀ m ρ).mem ((c : Thread nD τ).loc main_arg4))

/-- A device's number along the ring as the body computes it. -/
def ringWord (c : Dev nD) : BitVec 32 := Scalar.remsi (Scalar.divsi (Dev.word c) 1#32) 8#32

/-- The rows of the result a device computes. -/
def outAt (c : Dev nD) : Vec F S2x256x512 .f32 :=
  outV (ringWord c) (stgX m ρ c) (stgWq m ρ c) (stgWo m ρ c) (gath m ρ false) (gath m ρ true)

/-! ## The resources at the start and at the end -/

/-- What a device has of the exchange when it starts. -/
def start (c : Dev nD) : sProp 𝕄 :=
  iprop(∃ K, records m ρ K ∗ levAts L lv ∗ atPos ER (barCell c) 0 ∅ 0
    ∗ dutyTok ER (barCell (nxt c)) 0 false ∗ dutyTok ER (barCell (prv c)) 0 true ∗ cred (tallyAt (barCell c) () 2)
    ∗ bigSep Finset.univ fun h : Fin 7 => iprop(pre c false h ∗ pre c true h))

/-- Before the body: that, and the gathered buffers whatever they hold. -/
def Φ₀ (c : Dev nD) : sProp 𝕄 := iprop(start m ρ c ∗ (∃ f, held c gkM f) ∗ ∃ f, held c gvM f)

/-- After it: the gathered buffers full, every semaphore closed at zero. -/
def Φ₁ (c : Dev nD) : sProp 𝕄 :=
  iprop(held c gkM (gath m ρ false) ∗ held c gvM (gath m ρ true)
    ∗ (bigSep Finset.univ fun k : Fin 28 => semVal (xCell c k) 0) ∗ semVal (barCell c) 0)

/-- What the pipeline that stages the arguments and the result is told: the arrays, what each staging buffer holds after
    the body, the resources at both ends, what the device owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgX m ρ c
    | ⟨1, _⟩ => stgWq m ρ c
    | ⟨2, _⟩ => stgK m ρ c
    | ⟨3, _⟩ => stgV m ρ c
    | ⟨4, _⟩ => stgWo m ρ c
    | ⟨5, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## The device's own rows -/

/-- The own rows, at the offset the program computes. -/
theorem own_emb (c : Dev nD) (j : S2x4x256x64.Idx) :
    (Rect.unit (s := S2x4x2048x64) (k0_off1 c) S2x4x256x64.size (k0_off1_inb c)).emb j = (rows c).emb j := by
  have key : ∀ (off off' : Fin 4 → ℕ) (e : off = off')
      (i₁ : ∀ a, off a + S2x4x256x64.size a ≤ S2x4x2048x64.size a) (i₂ : ∀ a, off' a + S2x4x256x64.size a ≤ S2x4x2048x64.size a),
      (Rect.unit (s := S2x4x2048x64) off S2x4x256x64.size i₁).emb j = (Rect.unit (s := S2x4x2048x64) off' S2x4x256x64.size i₂).emb j := by
    rintro off _ rfl _ _; rfl
  exact key _ _ (k0_off1_eq c) _ _

/-- Stored there, the device's contribution is what its own rows read. -/
theorem own_stored (b : Bool) (c : Dev nD) (f : (bufM b).view.ty.Contents (Elt F)) (w : Vec F S2x4x256x64 .bf16) (hw : w = ownBlk m ρ b c) (j : (rows c).shape.Idx) :
    (bufM b).view.read (Elt F) ((bufM b).view.writes (Elt F) f
        [⟨Rect.unit (s := S2x4x2048x64) (k0_off1 c) S2x4x256x64.size (k0_off1_inb c), w⟩]) ((rows c).emb j) = ownBlk m ρ b c j := by
  subst hw
  exact View.read_writes_cons_hit (bufM b).view f (Rect.unit (s := S2x4x2048x64) (k0_off1 c) S2x4x256x64.size (k0_off1_inb c))
    (ownBlk m ρ b c) [] j _ (own_emb c j)

/-! ## The body -/

set_option maxHeartbeats 4000000 in
/-- The body, from its staged arguments and its share of the exchange: it ends with the arguments as they were, nothing owed, and the
    device's rows of the result in the staging buffer of the result. -/
theorem sound_body (c : Dev nD) (f5 : Vec F S2x256x512 .f32) (Q : PUnit → sProp 𝕄) :
    iprop(Φ₀ m ρ c ∗ (∃ W, owes (c : Thread nD τ) (O₀ c) W)
        ∗ held c xM (stgX m ρ c) ∗ held c wqM (stgWq m ρ c) ∗ held c kM (stgK m ρ c) ∗ held c vM (stgV m ρ c) ∗ held c woM (stgWo m ρ c) ∗ held c outM f5
        ∗ ((Φ₁ m ρ c ∗ (∃ W, owes (c : Thread nD τ) 0 W)
            ∗ held c xM (stgX m ρ c) ∗ held c wqM (stgWq m ρ c) ∗ held c kM (stgK m ρ c) ∗ held c vM (stgV m ρ c) ∗ held c woM (stgWo m ρ c) ∗ held c outM (outAt m ρ c)) -∗ Q ⟨⟩))
      ⊢ wp frame (wpE (defs₀ (F := F)) 𝒱₀ (c : Thread nD τ) none) Set.univ
          (cc0_body xM (Memref.isWhole_whole _) wqM (Memref.isWhole_whole _) kM (Memref.isWhole_whole _) vM (Memref.isWhole_whole _) woM (Memref.isWhole_whole _) outM (Memref.isWhole_whole _)
            gkM (Memref.isWhole_whole _) gvM (Memref.isWhole_whole _) cc0_scratch2 cc0_scratch3 cc0_scratch4 cc0_scratch5) Q := by
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel
  simp only [semSignalWord, semWaitWord, Prog.lift, Prog.bind_op, Prog.bind_ret, Prog.pure_eq_ret, wp_deviceId]
  unfold Φ₀ start
  iintro ⟨⟨⟨%K, #Hrec, #Hlev, HatB, HtN, HtP, HcB, Hpre⟩, ⟨%fk, Hgk⟩, ⟨%fv, Hgv⟩⟩, ⟨%W, HO⟩, HX, HQ, HK, HV, HWo, Hf, Hk⟩
  sl_exec
  have hk : (kM : Memref sig .tc .vmem S2x256x4x64 .bf16).view.readAt (Elt F) (Rect.unit (s := S2x256x4x64) ![0, 0, 0, 0] S2x256x4x64.size inb_S2x256x4x64_S2x256x4x64_0_0_0_0).toLoadRect (stgK m ρ c) = stgK m ρ c :=
    Memref.readAt_unit_zero (Elt F) cc0_stg2_0 zero4 _ _
  have hv : (vM : Memref sig .tc .vmem S2x256x4x64 .bf16).view.readAt (Elt F) (Rect.unit (s := S2x256x4x64) ![0, 0, 0, 0] S2x256x4x64.size inb_S2x256x4x64_S2x256x4x64_0_0_0_0).toLoadRect (stgV m ρ c) = stgV m ρ c :=
    Memref.readAt_unit_zero (Elt F) cc0_stg3_0 zero4 _ _
  rw [hk, hv]
  -- the device's buffers are its own blocks and the room for the others
  have sK : (held c gkM ((gkM : Memref sig .tc .vmem S2x4x2048x64 .bf16).view.writes (Elt F) fk
        [⟨Rect.unit (s := S2x4x2048x64) (k0_off1 c) S2x4x256x64.size (k0_off1_inb c), k0_pay2 (stgK m ρ c)⟩]) : sProp 𝕄)
      ⊢ iprop(slc m ρ false c (back c 0) ∗ bigSep Finset.univ fun h : Fin 7 => room (F := F) false c (back c (h.val + 1))) :=
    buf_split m ρ false c _ (own_stored m ρ false c fk _ rfl)
  have sV : (held c gvM ((gvM : Memref sig .tc .vmem S2x4x2048x64 .bf16).view.writes (Elt F) fv
        [⟨Rect.unit (s := S2x4x2048x64) (k0_off1 c) S2x4x256x64.size (k0_off1_inb c), k0_pay3 (stgV m ρ c)⟩]) : sProp 𝕄)
      ⊢ iprop(slc m ρ true c (back c 0) ∗ bigSep Finset.univ fun h : Fin 7 => room (F := F) true c (back c (h.val + 1))) :=
    buf_split m ρ true c _ (own_stored m ρ true c fv _ rfl)
  ihave Hgk' := sK $$ Hgk
  ihave Hgv' := sV $$ Hgv
  icases Hgk' with ⟨HsK, HrK⟩
  icases Hgv' with ⟨HsV, HrV⟩
  ihave Hbar := (barPay_prv c) $$ [HrK HrV]
  · isplitl [HrK] <;> iassumption
  simp only [sig1_eq c, sig2_eq c]
  -- to the predecessor's barrier, with the room
  unfold O₀
  iapply (Rounds.wp_signal 𝒱₀ ER (Rd m ρ) (c : Thread nD τ) none (dst := (prv c : Thread nD τ)) (κ := K (prv c, 0))
      (d := true) (by rw [duties_bar]; exact Finset.mem_univ _) ((amount_bar m ρ (prv c) true).trans (by decide)) ()
      (owe c 7 + tallyAt (barCell (nxt c)) () 1) rfl) $$ [HO HtP Hbar]
  · isplitr; · iapply (rec_inv m ρ K (prv c, 0)); iexact Hrec
    isplitl [HO]; · iexact HO
    isplitl [HtP]; · iexact HtP
    isplitl [Hbar]; · rw [payload_bar_true]; iexact Hbar
    iapply (rec_reached m ρ K (prv c, 0)); iexact Hrec
  iintro HO
  -- to the successor's, with nothing
  iapply (Rounds.wp_signal 𝒱₀ ER (Rd m ρ) (c : Thread nD τ) none (dst := (nxt c : Thread nD τ)) (κ := K (nxt c, 0))
      (d := false) (by rw [duties_bar]; exact Finset.mem_univ _) ((amount_bar m ρ (nxt c) false).trans (by decide)) ()
      (owe c 7) rfl) $$ [HO HtN]
  · isplitr; · iapply (rec_inv m ρ K (nxt c, 0)); iexact Hrec
    isplitl [HO]; · iexact HO
    isplitl [HtN]; · iexact HtN
    isplitr; · rw [payload_bar_false]; iempintro
    iapply (rec_reached m ρ K (nxt c, 0)); iexact Hrec
  iintro HO
  -- the wait for both neighbours: with it comes the room on the successor
  iapply (Rounds.wp_wait_rest_token 𝒱₀ ER (Rd m ρ) (c : Thread nD τ) none (κ := K (c, 0))
      (wpE_semWait_eq 𝒱₀ (c : Thread nD τ) none Set.univ) (Set.mem_univ _) () (O := owe c 7) (W := W) (R := 0) (m := 0) (T := ∅)
      (by rw [expect_bar]; decide)) $$ [HcB HO HatB]
  · isplitr; · iapply (rec_inv m ρ K (c, 0)); iexact Hrec
    isplitl [HcB]; · iexact HcB
    isplitl [HO]; · iexact HO
    isplitr
    · iapply (mayWait_of c (.reg barS) 1 (owe c 7) le_rfl fun g u hg => owe_pos le_rfl hg); iexact Hlev
    iexact HatB
  iintro ⟨HO, HatB, -, Hpay⟩
  ihave Hp := (Entails.of_eq (rest_bar m ρ c)) $$ Hpay
  icases Hp with ⟨-, Hroom⟩
  ihave Hneed := (needs_of_pres c) $$ [Hpre Hroom]
  · isplitl [Hpre] <;> iassumption
  -- the seven rounds
  iapply (wp_rounds m ρ K c (compute (ringWord c)) Q 7 le_rfl)
  isplitr; · iexact Hrec
  isplitr; · iexact Hlev
  isplitl [Hneed]; · iexact Hneed
  isplitl [HsK]; · iexact HsK
  isplitl [HsV]; · iexact HsV
  isplitl [HO]; · iexists _; iexact HO
  iintro ⟨Hleft, HsK, HsV, HO⟩
  ihave Hl := (lefts_split m ρ c) $$ Hleft
  icases Hl with ⟨Hat, HlK, HlV⟩
  ihave Hgk := (buf_join m ρ false c) $$ [HlK HsK]
  · isplitl [HlK] <;> iassumption
  ihave Hgv := (buf_join m ρ true c) $$ [HlV HsV]
  · isplitl [HlV] <;> iassumption
  -- every semaphore closes
  imod (close_all m ρ K c) $$ [Hat] with Hz
  · isplitr; · iexact Hrec
    iexact Hat
  imod (close_one m ρ K (c, 0)) $$ [HatB] with HzB
  · isplitr; · iexact Hrec
    iexact HatB
  -- the computation
  iapply (wp_compute c (ringWord c) (stgX m ρ c) (stgWq m ρ c) (stgWo m ρ c) (gath m ρ false) (gath m ρ true) f5 Q)
  isplitl [HX]; · iexact HX
  isplitl [HQ]; · iexact HQ
  isplitl [HWo]; · iexact HWo
  isplitl [Hgk]; · iexact Hgk
  isplitl [Hgv]; · iexact Hgv
  isplitl [Hf]; · iexact Hf
  iintro ⟨HX, HQ, HWo, Hgk, Hgv, Hf⟩
  iapply Hk
  isplitl [Hgk Hgv Hz HzB]
  · unfold Φ₁
    isplitl [Hgk]; · iexact Hgk
    isplitl [Hgv]; · iexact Hgv
    isplitl [Hz]; · iexact Hz
    iexact HzB
  isplitl [HO]; · iexact HO
  isplitl [HX]; · iexact HX
  isplitl [HQ]; · iexact HQ
  isplitl [HK]; · iexact HK
  isplitl [HV]; · iexact HV
  isplitl [HWo]; · iexact HWo
  iexact Hf

end Cert.Gather

end
-- ==== Proof.Launch.lean ====
/-
# The launch

The body as the pipeline calls it, and the run of the whole program: what the devices are dealt at the start, the
barrier's and the transfers' semaphores made into the exchange's, and the arrays at the end.
-/
module

public import proofs.«01_k».proof.Proof.Body
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline calls it -/

/-- A staging buffer of a device at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The one point of the grid. -/
abbrev t₀ : Fin cfg0.N := t0_0

/-- What is held for every window is held for each of the six. -/
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 4000 in
/-- What the pipeline hands the body. -/
def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- What it takes back. -/
def bodyPost (c : Dev nD) : sProp 𝕄 :=
  iprop(Φ₁ m ρ c ∗ (dats m ρ 0 c).owesAt () t₀.succ
    ∗ stg c cc0_stg0_0 (stgX m ρ c) ∗ stg c cc0_stg1_0 (stgWq m ρ c) ∗ stg c cc0_stg2_0 (stgK m ρ c)
    ∗ stg c cc0_stg3_0 (stgV m ρ c) ∗ stg c cc0_stg4_0 (stgWo m ρ c) ∗ stg c cc0_stg5_0 (outAt m ρ c))

/-- A staging buffer at contents that are what the body leaves. -/
theorem stg_intro (c : Dev nD) (b : Ref sig .tc) (X : b.ty.Contents (Elt F)) :
    ((((c : Thread nD τ).loc b) ↦{fullShare} (X : Buf (Elt F) (((c : Dev nD) : Thread nD τ).loc b))) : sProp 𝕄) ⊢ stg c b X := by
  iintro H; iexists _; isplitr; · (ipureintro; rfl)
  iexact H

/-- The body runs from what the pipeline hands it to what the pipeline wants back. -/
theorem body_run (c : Dev nD) :
    bodyPre m ρ c ⊢ wp frame (wpE (defs₀ (F := F)) 𝒱₀ (c : Thread nD τ) none) Set.univ
      (cc0_body xM (Memref.isWhole_whole _) wqM (Memref.isWhole_whole _) kM (Memref.isWhole_whole _) vM (Memref.isWhole_whole _) woM (Memref.isWhole_whole _) outM (Memref.isWhole_whole _)
        gkM (Memref.isWhole_whole _) gvM (Memref.isWhole_whole _) cc0_scratch2 cc0_scratch3 cc0_scratch4 cc0_scratch5) (fun _ => bodyPost m ρ c) := by
  unfold bodyPre
  iintro ⟨HΦ, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have h0 : g0 = stgX m ρ c := by rw [hg0]; unfold Dat.before; rw [if_pos (fetch0_0 t₀)]; rfl
  have h1 : g1 = stgWq m ρ c := by rw [hg1]; unfold Dat.before; rw [if_pos (fetch0_1 t₀)]; rfl
  have h2 : g2 = stgK m ρ c := by rw [hg2]; unfold Dat.before; rw [if_pos (fetch0_2 t₀)]; rfl
  have h3 : g3 = stgV m ρ c := by rw [hg3]; unfold Dat.before; rw [if_pos (fetch0_3 t₀)]; rfl
  have h4 : g4 = stgWo m ρ c := by rw [hg4]; unfold Dat.before; rw [if_pos (fetch0_4 t₀)]; rfl
  clear hg0 hg1 hg2 hg3 hg4 hg5
  subst h0 h1 h2 h3 h4
  unfold Dat.owesAt Pipeline.owesWithin
  icases Ho with ⟨%W, %hW, HO⟩
  rw [show (dats m ρ 0 c).owed t₀.castSucc = O₀ c from rfl]
  iapply (sound_body m ρ c g5 (fun _ => bodyPost m ρ c))
  isplitl [HΦ]; · iexact HΦ
  isplitl [HO]; · iexists W; iexact HO
  isplitl [H0]; · iexact H0
  isplitl [H1]; · iexact H1
  isplitl [H2]; · iexact H2
  isplitl [H3]; · iexact H3
  isplitl [H4]; · iexact H4
  isplitl [H5]; · iexact H5
  iintro ⟨HΦ, ⟨%W', HO⟩, H0, H1, H2, H3, H4, H5⟩
  unfold bodyPost Dat.owesAt Pipeline.owesWithin
  rw [show (dats m ρ 0 c).owed t₀.succ = 0 from rfl]
  isplitl [HΦ]; · iexact HΦ
  isplitl [HO]
  · iexists W'
    isplitr; · ipureintro; exact fun _ _ => Or.inl trivial
    iexact HO
  isplitl [H0]; · iapply (stg_intro c cc0_stg0_0 (stgX m ρ c)); iexact H0
  isplitl [H1]; · iapply (stg_intro c cc0_stg1_0 (stgWq m ρ c)); iexact H1
  isplitl [H2]; · iapply (stg_intro c cc0_stg2_0 (stgK m ρ c)); iexact H2
  isplitl [H3]; · iapply (stg_intro c cc0_stg3_0 (stgV m ρ c)); iexact H3
  isplitl [H4]; · iapply (stg_intro c cc0_stg4_0 (stgWo m ρ c)); iexact H4
  iapply (stg_intro c cc0_stg5_0 (outAt m ρ c)); iexact H5

set_option maxRecDepth 4000 in
/-- The body meets what the pipeline asks of it. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact body_run m ρ c

/-! ## What the devices are dealt -/

/-- The transfer semaphores belong to the call, they are all different, and none of them is a staging semaphore. -/
theorem ownSemFacts : Pipeline.OwnSemFacts cfg0.spec osem := by decide

/-- Every window's buffer is held whole. -/
theorem share_eq (c : Dev nD) (w : Fin cfg0.W) : (dats m ρ 0 c).share w = fullShare := by unfold Dat.share; split <;> rfl

/-- The semaphores of the exchange on one device are all different. -/
theorem csem_injective : Function.Injective csem := by
  intro k k' h
  rcases Fin.eq_zero_or_eq_succ k with rfl | ⟨j, rfl⟩ <;> rcases Fin.eq_zero_or_eq_succ k' with rfl | ⟨j', rfl⟩
  · rfl
  · exact absurd h.symm (dma_ne_bar _)
  · exact absurd h (dma_ne_bar _)
  · exact congrArg Fin.succ (osem_injective h)

/-- The semaphores of the exchange on all devices are all different. -/
theorem kcell_injective : Function.Injective (kcell : Dev nD × Fin 29 → GSem nD τ sig) := by
  rintro ⟨c, k⟩ ⟨c', k'⟩ h
  obtain rfl : c = c' := congrArg (fun g : GSem nD τ sig => g.1.1) h
  rw [csem_injective (congrArg Prod.snd h)]

/-- The exchange's semaphores, all devices'. -/
def ringCells : Finset (GSem nD τ sig) := Finset.univ.map ⟨kcell, kcell_injective⟩

/-- The payments due at a device's semaphores: two at its barrier's, one at each transfer's. -/
def tokOf (x : Dev nD × (Bool ⊕ Fin 28)) : GSem nD τ sig × ℕ × Bool :=
  match x.2 with
  | .inl d => (barCell x.1, 0, d)
  | .inr k => (xCell x.1 k, 0, false)

/-- The payments of the exchange are all different. -/
theorem tokOf_injective : Function.Injective tokOf := by
  rintro ⟨c, j⟩ ⟨c', j'⟩ h
  have hc : c = c' := by
    have := congrArg (fun x : GSem nD τ sig × ℕ × Bool => x.1.1.1) h
    cases j <;> cases j' <;> exact this
  subst hc
  cases j with
  | inl d => cases j' with
    | inl d' => exact congrArg (fun d => (c, Sum.inl d)) (congrArg (fun x : GSem nD τ sig × ℕ × Bool => x.2.2) h)
    | inr k' => exact absurd (congrArg (fun x : GSem nD τ sig × ℕ × Bool => x.1.2) h).symm (dma_ne_bar _)
  | inr k => cases j' with
    | inl d' => exact absurd (congrArg (fun x : GSem nD τ sig × ℕ × Bool => x.1.2) h) (dma_ne_bar _)
    | inr k' => rw [osem_injective (congrArg (fun x : GSem nD τ sig × ℕ × Bool => x.1.2) h)]

/-- Those payments, all devices'. -/
def ringToks : Finset (GSem nD τ sig × ℕ × Bool) := Finset.univ.map ⟨tokOf, tokOf_injective⟩

/-- The ghost state at launch: the staging pipeline's, and the exchange's. -/
def u₀ : UU :=
  (initOf (Pipeline.cells cfgs cellOf_inj) (Pipeline.launchToks cfgs cellOf_inj), initOf ringCells ringToks)

/-- The payments due at a device's own semaphores. -/
def toks (c : Dev nD) : sProp 𝕄 :=
  iprop((dutyTok ER (barCell c) 0 false ∗ dutyTok ER (barCell c) 0 true)
    ∗ bigSep Finset.univ fun h : Fin 7 =>
      iprop((dutyTok ER (xCell c (ix false false h)) 0 false ∗ dutyTok ER (xCell c (ix false true h)) 0 false)
        ∗ dutyTok ER (xCell c (ix true false h)) 0 false ∗ dutyTok ER (xCell c (ix true true h)) 0 false))

/-- The payments a device makes: at its neighbours' barriers, at its own send and its successor's receive semaphores. -/
def payToks (c : Dev nD) : sProp 𝕄 :=
  iprop((dutyTok ER (barCell (nxt c)) 0 false ∗ dutyTok ER (barCell (prv c)) 0 true)
    ∗ bigSep Finset.univ fun h : Fin 7 =>
      iprop((dutyTok ER (xCell c (ix false false h)) 0 false ∗ dutyTok ER (xCell (nxt c) (ix false true h)) 0 false)
        ∗ dutyTok ER (xCell c (ix true false h)) 0 false ∗ dutyTok ER (xCell (nxt c) (ix true true h)) 0 false))

/-- What the launch deals a device: its semaphores' states and positions, and the payments due at them. -/
def G (c : Dev nD) : sProp 𝕄 :=
  iprop((bigSep Finset.univ fun k : Fin 29 => roundState ER (Rd m ρ) (kcell (c, k)) 0)
    ∗ (bigSep Finset.univ fun k : Fin 29 => iprop(atPos ER (kcell (c, k)) 0 ∅ 0 ∗ reached ER (kcell (c, k)) 0)) ∗ toks c)

/-- What stays with a device: its positions, and the payments it makes. -/
def linear (c : Dev nD) : sProp 𝕄 :=
  iprop((bigSep Finset.univ fun k : Fin 29 => atPos ER (kcell (c, k)) 0 ∅ 0) ∗ payToks c)

/-- What each device has once the semaphores are the exchange's. -/
def G' (c : Dev nD) : sProp 𝕄 := iprop(∃ K, records m ρ K ∗ linear c)

/-- The exchange's ghost state at launch deals every device its part. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 29 => Φ (kcell (c, k)) := by
    unfold ringCells; rw [bigSep_map, bigSep_univ_prod]; rfl
  have two (Ψ : Bool → sProp 𝕄) : bigSep Finset.univ Ψ = iprop(Ψ false ∗ Ψ true) :=
    bigSep_univ_eq_bigSepL [false, true] (by decide) (by decide) Ψ
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [BI.bigSep_univ_sum, two, ← bigSep_ix (fun k => dutyTok ER (xCell c k) 0 false)]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores become the exchange's -/

/-- The barrier's is the launch's one semaphore outside the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero are the exchange's 29 at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 29 => semVal (kcell (c, k)) 0 : sProp 𝕄) := by
  rw [unscopedSems0_eq, bigSep_first]
  exact sep_symm

/-- A device's semaphores at zero, with their states, become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 29 => semVal (kcell (c, k)) 0) ∗ bigSep Finset.univ fun k : Fin 29 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The records and a device's own part are what the device needs. -/
theorem ghost_intro (K : Dev nD × Fin 29 → ℕ) (c : Dev nD) : iprop(records m ρ K ∗ linear c) ⊢ G' m ρ c := by
  unfold G'
  iintro H; iexists K; iexact H

/-- The payments dealt around the ring: those at a barrier to the device before and to the device after, those at a receive
    semaphore to the device before. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => bigSep Finset.univ fun h : Fin 7 => (dutyTok ER (xCell c (ix false true h)) 0 false : sProp 𝕄)),
    bigSep_univ_equiv ring (fun c : Dev nD => bigSep Finset.univ fun h : Fin 7 => (dutyTok ER (xCell c (ix true true h)) 0 false : sProp 𝕄))]
  exact BI.Entails.refl _

/-- All devices' invariants become records that each device has, and the payments go to the devices that make them. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 29 => iprop(∃ κ : ℕ, cellInv ER (Rd m ρ) κ (kcell ck))),
    bigSep_congr (s := Finset.univ) (fun (c : Dev nD) _ => bigSep_sep' Finset.univ (fun k : Fin 29 => (atPos ER (kcell (c, k)) 0 ∅ 0 : sProp 𝕄)) (fun k => reached ER (kcell (c, k)) 0)),
    bigSep_sep', ← bigSep_univ_prod (fun ck : Dev nD × Fin 29 => (reached ER (kcell ck) 0 : sProp 𝕄))]
  iintro ⟨HI, ⟨Hat, #HR⟩, Htok⟩
  ihave HK := (BI.bigSep_exists_pi Finset.univ (fun (ck : Dev nD × Fin 29) (κ : ℕ) => (cellInv ER (Rd m ρ) κ (kcell ck) : sProp 𝕄))) $$ HI
  icases HK with ⟨%K, #HI⟩
  ihave Htk := (toks_around (F := F)) $$ Htok
  iapply (bigSep_with (R := records m ρ K) fun c _ => ghost_intro m ρ K c)
  isplitr
  · unfold records; isplitl; · iexact HI
    iexact HR
  · unfold linear; rw [bigSep_sep']
    isplitl [Hat]; · iexact Hat
    iexact Htk

/-- The step all devices take together. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- A barrier semaphore determines its device. -/
theorem bar_inj {a b : Dev nD} (h : barCell a = barCell b) : a = b := congrArg (fun g : GSem nD τ sig => g.1.1) h

/-- A transfer semaphore determines its device and its number. -/
theorem xCell_inj {a b : Dev nD} {k k' : Fin 28} (h : xCell a k = xCell b k') : a = b ∧ k = k' :=
  ⟨congrArg (fun g : GSem nD τ sig => g.1.1) h, osem_injective (congrArg Prod.snd h)⟩

/-- The device after `d` is `c` exactly if `d` is the one before `c`. -/
theorem prv_iff {c d : Dev nD} : nxt d = c ↔ d = prv c := ⟨fun h => by rw [← h, prv_nxt], fun h => by rw [h, nxt_prv]⟩
/-- The device before `d` is `c` exactly if `d` is the one after `c`. -/
theorem nxt_iff {c d : Dev nD} : prv d = c ↔ d = nxt c := ⟨fun h => by rw [← h, nxt_prv], fun h => by rw [h, prv_nxt]⟩

/-- For the rounds a device owes nothing at a barrier. -/
theorem owe_bar (d c : Dev nD) : owe d 7 (barCell c) () = 0 := by
  by_contra h
  have := (owe_pos le_rfl (Nat.pos_of_ne_zero h)).2
  exact absurd (show 8 - 7 < 1 from this) (by decide)

/-- One payment of a round. -/
theorem tally_x (d c : Dev nD) (b b' : Bool) (h h' : Fin 7) :
    (tallyAt (xCell (nxt d) (ix b' true h')) () N : CellTallies nD τ sig Unit) (xCell c (ix b true h)) () = if (d = prv c ∧ b = b') ∧ h = h' then N else 0 := by
  rw [tallyAt_apply]
  refine if_congr ⟨fun ⟨e, _⟩ => ?_, fun ⟨⟨e, e'⟩, e''⟩ => ?_⟩ rfl rfl
  · obtain ⟨e1, e2⟩ := xCell_inj e
    obtain ⟨e3, _, e4⟩ := ix_injective e2
    exact ⟨⟨prv_iff.mp e1.symm, e3⟩, e4⟩
  · rw [prv_iff.mpr e, e', e'']; exact ⟨rfl, rfl⟩

/-- For the last `n` rounds the predecessor owes a device the receive credit of each. -/
theorem owe_x (d c : Dev nD) (b : Bool) (h : Fin 7) : ∀ n, n ≤ 7 →
    owe d n (xCell c (ix b true h)) () = if d = prv c ∧ 7 ≤ h.val + n then N else 0
  | 0, _ => by
    rw [if_neg (fun e => by have := h.isLt; omega)]; rfl
  | n + 1, hn => by
    have ih := owe_x d c b h n (Nat.le_of_succ_le hn)
    have hr : h = owe.rnd n ↔ h.val + n = 6 := by
      rw [Fin.ext_iff]; show h.val = 6 - n ↔ _; omega
    show (owe d n + tallyAt (xCell (nxt d) (ix true true (owe.rnd n))) () N + tallyAt (xCell (nxt d) (ix false true (owe.rnd n))) () N : CellTallies nD τ sig Unit)
      (xCell c (ix b true h)) () = _
    rw [Pi.add_apply, Finsupp.add_apply, Pi.add_apply, Finsupp.add_apply, ih, tally_x, tally_x]
    simp only [hr]
    by_cases hd : d = prv c
    · cases b <;> simp only [hd, true_and, and_true, Bool.false_eq_true, Bool.true_eq_false, false_and, if_false, reduceCtorEq] <;> split_ifs <;> omega
    · simp only [hd, false_and, if_false]

/-- A receive semaphore is owed one block's credit, by the device before. -/
theorem owed_x (d c : Dev nD) (b : Bool) (h : Fin 7) : O₀ d (xCell c (ix b true h)) () = if d = prv c then N else 0 := by
  unfold O₀
  rw [Pi.add_apply, Finsupp.add_apply, Pi.add_apply, Finsupp.add_apply, owe_x d c b h 7 le_rfl,
    tallyAt_ne_cell (fun e => dma_ne_bar _ (congrArg Prod.snd e)), tallyAt_ne_cell (fun e => dma_ne_bar _ (congrArg Prod.snd e)),
    Finsupp.zero_apply, Nat.add_zero, Nat.add_zero]
  exact if_congr ⟨fun e => e.1, fun e => ⟨e, by omega⟩⟩ rfl rfl

/-- A barrier semaphore is owed one unit by the device before and one by the device after. -/
theorem owed_bar (d c : Dev nD) : O₀ d (barCell c) () = (if d = prv c then 1 else 0) + (if d = nxt c then 1 else 0) := by
  unfold O₀
  rw [Pi.add_apply, Finsupp.add_apply, Pi.add_apply, Finsupp.add_apply, owe_bar, Nat.zero_add, tallyAt_apply, tallyAt_apply]
  congr 1
  · exact if_congr ⟨fun e => prv_iff.mp (bar_inj e.1).symm, fun e => ⟨by rw [prv_iff.mpr e], rfl⟩⟩ rfl rfl
  · exact if_congr ⟨fun e => nxt_iff.mp (bar_inj e.1).symm, fun e => ⟨by rw [nxt_iff.mpr e], rfl⟩⟩ rfl rfl

/-- At launch a barrier semaphore's credit is two units. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- At launch a receive semaphore's credit is one block's. -/
theorem launch_x (c : Dev nD) (b : Bool) (h : Fin 7) :
    tallyOn (xCell c (ix b true h)) (launchCredit (Pipeline.owing O₀) 0 (xCell c (ix b true h))) = (tallyAt (xCell c (ix b true h)) () N : CellTallies nD τ sig Unit) := by
  unfold tallyAt; refine congrArg _ (Finsupp.ext fun u => ?_); cases u
  rw [Pipeline.launchCredit_owing, Finsupp.single_eq_same, Finset.sum_congr rfl fun d _ => owed_x d c b h, Finset.sum_ite_eq' Finset.univ (prv c) fun _ => N,
    if_pos (Finset.mem_univ _)]

/-- A round's two receive credits out of the credits of its four semaphores. -/
theorem creds_one (c : Dev nD) (h : Fin 7) (Φ : Fin 28 → sProp 𝕄) (hΦ : ∀ b, Φ (ix b true h) = cred (tallyAt (xCell c (ix b true h)) () N)) :
    iprop((Φ (ix false false h) ∗ Φ (ix false true h)) ∗ Φ (ix true false h) ∗ Φ (ix true true h))
      ⊢ iprop(cred (tallyAt (xCell c (ix false true h)) () N) ∗ cred (tallyAt (xCell c (ix true true h)) () N)) := by
  rw [hΦ, hΦ]
  iintro ⟨⟨-, H⟩, -, H'⟩
  isplitl [H] <;> iassumption

/-- A device's credit at launch: two at its barrier, a transfer's at each of its receive semaphores. -/
theorem creds (c : Dev nD) :
    (Pipeline.launchCred O₀ c : sProp 𝕄)
      ⊢ iprop(cred (tallyAt (barCell c) () 2)
          ∗ bigSep Finset.univ fun h : Fin 7 => iprop(cred (tallyAt (xCell c (ix false true h)) () N) ∗ cred (tallyAt (xCell c (ix true true h)) () N))) := by
  have hsub : (Pipeline.launchCred O₀ c : sProp 𝕄)
      ⊢ bigSep Finset.univ fun k : Fin 29 => cred (tallyOn (kcell (c, k)) (launchCredit (Pipeline.owing O₀) 0 (kcell (c, k)))) := by
    unfold Pipeline.launchCred
    refine (bigSep_subset (Finset.subset_univ (Finset.univ.map ⟨csem, csem_injective⟩))).trans ?_
    rw [bigSep_map]
    exact BI.Entails.refl _
  refine hsub.trans ?_
  rw [bigSep_first, bigSep_ix]
  refine BI.sep_mono ?_ (bigSep_mono fun h _ => creds_one c h (fun k => cred (tallyOn (kcell (c, k.succ)) (launchCredit (Pipeline.owing O₀) 0 (kcell (c, k.succ)))))
    fun b => congrArg cred (launch_x c b h))
  exact Entails.of_eq (congrArg cred (launch_bar c))

/-! ## The theorem's side conditions -/

/-- The positions, payments and credits of a round. -/
theorem pre_intro (c : Dev nD) (h : Fin 7) :
    iprop(((atPos ER (xCell c (ix false false h)) 0 ∅ 0 ∗ atPos ER (xCell c (ix false true h)) 0 ∅ 0)
          ∗ atPos ER (xCell c (ix true false h)) 0 ∅ 0 ∗ atPos ER (xCell c (ix true true h)) 0 ∅ 0)
        ∗ ((dutyTok ER (xCell c (ix false false h)) 0 false ∗ dutyTok ER (xCell (nxt c) (ix false true h)) 0 false)
          ∗ dutyTok ER (xCell c (ix true false h)) 0 false ∗ dutyTok ER (xCell (nxt c) (ix true true h)) 0 false)
        ∗ cred (tallyAt (xCell c (ix false true h)) () N) ∗ cred (tallyAt (xCell c (ix true true h)) () N))
      ⊢ (iprop(pre c false h ∗ pre c true h) : sProp 𝕄) := by
  unfold pre
  iintro ⟨⟨⟨A1, A2⟩, A3, A4⟩, ⟨⟨T1, T2⟩, T3, T4⟩, C1, C2⟩
  isplitl [A1 A2 T1 T2 C1]
  · isplitl [A1]; · iexact A1
    isplitl [A2]; · iexact A2
    isplitl [T1]; · iexact T1
    isplitl [T2] <;> iassumption
  · isplitl [A3]; · iexact A3
    isplitl [A4]; · iexact A4
    isplitl [T3]; · iexact T3
    isplitl [T4] <;> iassumption

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hp : (iprop((bigSep Finset.univ fun k : Fin 28 => atPos ER (xCell c k) 0 ∅ 0)
      ∗ (bigSep Finset.univ fun h : Fin 7 =>
          iprop((dutyTok ER (xCell c (ix false false h)) 0 false ∗ dutyTok ER (xCell (nxt c) (ix false true h)) 0 false)
            ∗ dutyTok ER (xCell c (ix true false h)) 0 false ∗ dutyTok ER (xCell (nxt c) (ix true true h)) 0 false))
      ∗ bigSep Finset.univ fun h : Fin 7 => iprop(cred (tallyAt (xCell c (ix false true h)) () N) ∗ cred (tallyAt (xCell c (ix true true h)) () N))) : sProp 𝕄)
      ⊢ bigSep Finset.univ fun h : Fin 7 => iprop(pre c false h ∗ pre c true h) := by
    rw [bigSep_ix, ← bigSep_sep', ← bigSep_sep']
    exact bigSep_mono fun h _ => pre_intro c h
  iintro ⟨-, Hlev, Hcr, -, HG⟩
  ihave Hc := (creds (F := F) c) $$ Hcr
  icases Hc with ⟨HcB, HcX⟩
  unfold G' linear payToks
  rw [bigSep_first]
  icases HG with ⟨%K, Hrec, ⟨HaB, HaX⟩, ⟨HtN, HtP⟩, HtX⟩
  imodintro
  unfold start
  isplitl
  · iexists K
    isplitl [Hrec]; · iexact Hrec
    isplitl [Hlev]; · iexact Hlev
    isplitl [HaB]; · iexact HaB
    isplitl [HtN]; · iexact HtN
    isplitl [HtP]; · iexact HtP
    isplitl [HcB]; · iexact HcB
    iapply hp
    isplitl [HaX]; · iexact HaX
    isplitl [HtX] <;> iassumption
  · iempintro

/-- With the two gathering buffers it is the body's first state. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hk⟩, ⟨%g, Hv⟩⟩
  isplitl [Hs]; · iexact Hs
  isplitl [Hk]
  · iexists f; iexact Hk
  · iexists g; iexact Hv

/-- From the body's last state the semaphores, all at zero, and the gathering buffers come back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, unscopedSems0_eq]
  unfold Φ₁ Pipeline.ownSems0
  iintro ⟨Hk, Hv, Hz, HzB⟩
  isplitl [HzB]; · iexact HzB
  isplitl [Hz]; · iexact Hz
  isplitl [Hk]
  · iexists (gath m ρ false); iexact Hk
  · iexists (gath m ρ true); iexact Hv

/-- The pipeline's own waits are below all that a device owes. -/
theorem waits (c : Dev nD) : (levAts L lv : sProp 𝕄) ⊢ Pipeline.cellsWaits cfgs (dats m ρ) () 0 c :=
  Pipeline.cellsWaits_intro cfgs (dats m ρ) () 0 c fun w s t =>
    mayWait_of c _ 0 _ (by fin_cases w <;> fin_cases s <;> exact Nat.le_refl 0) fun g u hg => by
      rcases t with ⟨_ | _, ht⟩
      · exact O₀_pos hg
      · exact absurd hg (Nat.lt_irrefl 0)

/-! ## The run -/

/-- What a device's array of a window holds at the end. -/
def finalA (c : Dev nD) (w : Fin cfg0.W) : Buf (Elt F) ((cfg0.win w).arr.view.loc (c : Thread nD τ)) := (dats m ρ 0 c).arrAt w cfg0.N

/-- Every array holds that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution ends, with the arrays as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array ends as it began. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.Gather

end
-- ==== Proof.Head.lean ====
/-
# One head of the computation

The body computes four heads for each of two batches, and its text is cut at different places in each.  Each is the same
chain of operations, stated here once.
-/
module

public import proofs.«01_k».proof.Proof.Compute
public import Idealize.ShloMosaic.Lib.Pointwise

@[expose] public section

noncomputable section

namespace Cert.Gather

open Cert.KernelIdeal Cert.KernelIdeal.Gen
open Idealize.ShloMosaic
open scoped BigOperators

section AnyFloats
variable {F : FTy → Type} [FloatOps F]

/-- A batch's queries: its rows of `x` times the projection. -/
def queriesV (Wq : FVec F S512x256 .bf16) (xr : Vec F S1x256x512 .bf16) : FVec F S256x256 .f32 :=
  matmul dot_S256x512_S512x256_S256x256_1_0_0_1_n_n none (shapeCast S256x512 xr shapeCasts_S1x256x512_S256x512) (shapeCast S512x256 Wq shapeCasts_S512x256_S512x256)
    (constant S256x256 .f32 0x00000000#32)

/-- A head's columns are a slice of the batch's queries. -/
theorem head_slices (n : Fin 4) : S256x4x64.Slices ![0, n.val, 0] S256x1x64 := by revert n; decide

/-- One head's queries out of a batch's. -/
def headQ (n : Fin 4) (q : FVec F S256x256 .f32) : FVec F S256x64 .bf16 :=
  shapeCast S256x64 (extractStridedSlice S256x1x64 ![0, n.val, 0] (truncf .bf16 (shapeCast S256x4x64 q shapeCasts_S256x256_S256x4x64) bitsLt_bf16_f32) (head_slices n))
    shapeCasts_S256x1x64_S256x64

/-- Its scores against every gathered key, a masked one being replaced. -/
def scoresV (mask : IVec S256x2048 1) (q : FVec F S256x64 .bf16) (kb : Vec F S1x1x2048x64 .bf16) : FVec F S256x2048 .f32 :=
  select mask
    (mulf (matmul dot_S256x64_S2048x64_S256x2048_1_1_0_0_n_n none q (shapeCast S2048x64 kb shapeCasts_S1x1x2048x64_S2048x64) (constant S256x2048 .f32 0x00000000#32))
      (broadcast S256x2048 (Scalar.ofBits .f32 0x3E000000#32)))
    (broadcast S256x2048 (Scalar.ofBits .f32 0xCE6E6B28#32))

/-- The exponentials of the scores, each row's greatest subtracted. -/
def expsV (s : FVec F S256x2048 .f32) : FVec F S256x2048 .f32 :=
  exp (subf s (broadcastTo S256x2048 (shapeCast S256x1 (multiReduction .maximumf [1] S256 s 0xFF800000#32 reduces_S256x2048_S256 (.inl rfl) rfl) shapeCasts_S256_S256x1)
    broadcasts_S256x1_S256x2048))

/-- The weights: the exponentials over their row's sum. -/
def probsV (e : FVec F S256x2048 .f32) : FVec F S256x2048 .f32 :=
  divf e (broadcastTo S256x2048 (shapeCast S256x1 (multiReduction .add [1] S256 e 0x00000000#32 reduces_S256x2048_S256 (.inl rfl) rfl) shapeCasts_S256_S256x1)
    broadcasts_S256x1_S256x2048)

/-- The weighted sum of the gathered values. -/
def ctxV (p : FVec F S256x2048 .f32) (vb : Vec F S1x1x2048x64 .bf16) : FVec F S256x64 .f32 :=
  matmul dot_S256x2048_S2048x64_S256x64_1_0_0_1_n_n none (truncf .bf16 p bitsLt_bf16_f32) (shapeCast S2048x64 vb shapeCasts_S1x1x2048x64_S2048x64)
    (constant S256x64 .f32 0x00000000#32)

/-- One head's rows. -/
def headV (mask : IVec S256x2048 1) (q : FVec F S256x64 .bf16) (kb vb : Vec F S1x1x2048x64 .bf16) : FVec F S256x64 .f32 :=
  ctxV (probsV (expsV (scoresV mask q kb))) vb

/-- The heads side by side, times the output projection. -/
def outputV (Wo : FVec F S256x512 .bf16) (h0 h1 h2 h3 : FVec F S256x64 .f32) : FVec F S1x256x512 .f32 :=
  shapeCast S1x256x512 (matmul dot_S256x256_S256x512_S256x512_1_0_0_1_n_n none
      (truncf .bf16 (concatenate S256x256 1 [⟨S256x64, h0⟩, ⟨S256x64, h1⟩, ⟨S256x64, h2⟩, ⟨S256x64, h3⟩] concatenates_S256x64_S256x64_S256x64_S256x64_S256x256_d1) bitsLt_bf16_f32)
      (shapeCast S256x512 Wo shapeCasts_S256x512_S256x512) (constant S256x512 .f32 0x00000000#32)) shapeCasts_S256x512_S1x256x512

/-- A batch's rows of the result. -/
def batchV (dw : BitVec 32) (X : Vec F S2x256x512 .bf16) (Wq : Vec F S512x256 .bf16) (Wo : Vec F S256x512 .bf16) (GK GV : Vec F S2x4x2048x64 .bf16) (i : Fin 2) :
    FVec F S1x256x512 .f32 :=
  let h (n : Fin 4) := headV (maskW dw) (headQ n (queriesV Wq (xRow X i))) (gHead GK i n) (gHead GV i n)
  outputV Wo (h 0) (h 1) (h 2) (h 3)

variable (dw : BitVec 32) (X : Vec F S2x256x512 .bf16) (Wq : Vec F S512x256 .bf16) (Wo : Vec F S256x512 .bf16) (GK GV : Vec F S2x4x2048x64 .bf16)

/-- The first batch's rows are that. -/
theorem out0_eq : out0 dw X Wq Wo GK GV = batchV dw X Wq Wo GK GV 0 := rfl

/-- So are the second's. -/
theorem out1_eq : out1 dw X Wq Wo GK GV = batchV dw X Wq Wo GK GV 1 := rfl

end AnyFloats

/-! ## One row, over the extended reals -/

/-- A row's scores: products with every key, scaled; a key that is not kept scores the mask's value. -/
def scoreR (keep : Fin 2048 → BitVec 1) (q : Fin 64 → EReal) (K : Fin 2048 → Fin 64 → EReal) (j : Fin 2048) : EReal :=
  Scalar.select (keep j) ((∑ d : Fin 64, q d * K j d) * Ideal.ofBits .f32 0x3E000000#32) (Ideal.ofBits .f32 0xCE6E6B28#32)

/-- Their exponentials, the greatest subtracted. -/
def expR (s : Fin 2048 → EReal) (j : Fin 2048) : EReal :=
  Ideal.exp (s j - (Finset.univ : Finset (Fin 2048)).fold max (Ideal.ofBits .f32 0xFF800000#32) s)

/-- The weights. -/
def probR (e : Fin 2048 → EReal) (j : Fin 2048) : EReal := Ideal.div (e j) (∑ k : Fin 2048, e k)

/-- The weighted sum of the values. -/
def ctxR (p : Fin 2048 → EReal) (V : Fin 2048 → Fin 64 → EReal) (d : Fin 64) : EReal := ∑ j : Fin 2048, p j * V j d

/-- One head of one row. -/
def attendR (keep : Fin 2048 → BitVec 1) (q : Fin 64 → EReal) (K V : Fin 2048 → Fin 64 → EReal) (d : Fin 64) : EReal :=
  ctxR (probR (expR (scoreR keep q K))) V d

/-- The head a column belongs to. -/
abbrev headOf (k : Fin 256) : Fin 4 := ⟨k.val / 64, by omega⟩
/-- Its place in the head. -/
abbrev inHead (k : Fin 256) : Fin 64 := ⟨k.val % 64, by omega⟩
/-- The column of a place in a head. -/
abbrev colOf (n : Fin 4) (d : Fin 64) : Fin 256 := ⟨n.val * 64 + d.val, by omega⟩

/-- One element of the result: a row's heads against one column of the output projection.  `x` is the row of the input,
    `K n` and `V n` the keys and values of head `n`. -/
def elemR (keep : Fin 2048 → BitVec 1) (x : Fin 512 → EReal) (wq : Fin 512 → Fin 256 → EReal) (K V : Fin 4 → Fin 2048 → Fin 64 → EReal) (wo : Fin 256 → EReal) : EReal :=
  ∑ k : Fin 256, attendR keep (fun d => ∑ e : Fin 512, x e * wq e (colOf (headOf k) d)) (K (headOf k)) (V (headOf k)) (inHead k) * wo k

/-! ## The body's chain is that -/

/-- The kernel's scores at a row and a key are the row's score of that key. -/
theorem scoresV_apply (mask : IVec S256x2048 1) (q : FVec Ideal S256x64 .bf16) (kb : Vec Ideal S1x1x2048x64 .bf16) (r : Fin 256) (j : Fin 2048) :
    scoresV mask q kb (ix2 r j) = scoreR (fun j => mask (ix2 r j)) (fun d => q (ix2 r d)) (fun j d => kb (ix4 0 0 j d)) j := by
  pointwise [scoresV, scoreR]

/-- The kernel's exponentials, row by row. -/
theorem expsV_apply (s : FVec Ideal S256x2048 .f32) (r : Fin 256) (j : Fin 2048) :
    expsV s (ix2 r j) = expR (fun j => s (ix2 r j)) j := by
  pointwise [expsV, expR]

/-- The kernel's probabilities, row by row. -/
theorem probsV_apply (e : FVec Ideal S256x2048 .f32) (r : Fin 256) (j : Fin 2048) :
    probsV e (ix2 r j) = probR (fun j => e (ix2 r j)) j := by
  pointwise [probsV, probR]

/-- The kernel's weighted sum of the values, row by row. -/
theorem ctxV_apply (p : FVec Ideal S256x2048 .f32) (vb : Vec Ideal S1x1x2048x64 .bf16) (r : Fin 256) (d : Fin 64) :
    ctxV p vb (ix2 r d) = ctxR (fun j => p (ix2 r j)) (fun j d => vb (ix4 0 0 j d)) d := by
  pointwise [ctxV, ctxR]

/-- The kernel's queries at an element: the product of a row of `x` and a column of the projection. -/
theorem queriesV_apply (Wq : FVec Ideal S512x256 .bf16) (xr : Vec Ideal S1x256x512 .bf16) (r : Fin 256) (n : Fin 256) :
    queriesV Wq xr (ix2 r n) = ∑ e : Fin 512, xr (ix3 0 r e) * Wq (ix2 e n) := by
  pointwise [queriesV]

/-- A head's queries are its columns of the batch's. -/
theorem headQ_apply (n : Fin 4) (q : FVec Ideal S256x256 .f32) (r : Fin 256) (d : Fin 64) :
    headQ n q (ix2 r d) = q (ix2 r (colOf n d)) := by
  pointwise [headQ]

/-- One head's rows, row by row. -/
theorem headV_apply (mask : IVec S256x2048 1) (q : FVec Ideal S256x64 .bf16) (kb vb : Vec Ideal S1x1x2048x64 .bf16) (r : Fin 256) (d : Fin 64) :
    headV mask q kb vb (ix2 r d)
      = attendR (fun j => mask (ix2 r j)) (fun d => q (ix2 r d)) (fun j d => kb (ix4 0 0 j d)) (fun j d => vb (ix4 0 0 j d)) d := by
  unfold headV attendR
  simp only [ctxV_apply, probsV_apply, expsV_apply, scoresV_apply]

/-- Of four heads side by side, a column lies in its head. -/
theorem column_head {α : Type} (h : Fin 4 → Fin 64 → α) (k : Fin 256) :
    (if h_1 : k.val < 64 then h 0 ⟨k.val, h_1⟩
      else if h_2 : k.val - 64 < 64 then h 1 ⟨k.val - 64, h_2⟩
      else if h_3 : k.val - 64 - 64 < 64 then h 2 ⟨k.val - 64 - 64, h_3⟩ else h 3 ⟨k.val - 64 - 64 - 64, by omega⟩)
      = h (headOf k) (inHead k) := by
  split_ifs <;> exact congrArg₂ h (Fin.ext (by simp only [Fin.val_zero, Fin.val_one, Fin.val_two, headOf, show ((3 : Fin 4) : ℕ) = 3 from rfl]; omega)) (Fin.ext (by simp only [inHead]; omega))

/-- The kernel's output at an element: the product of the heads side by side and a column of the output projection. -/
theorem outputV_apply (Wo : FVec Ideal S256x512 .bf16) (h : Fin 4 → FVec Ideal S256x64 .f32) (r : Fin 256) (o : Fin 512) :
    outputV Wo (h 0) (h 1) (h 2) (h 3) (ix3 0 r o) = ∑ k : Fin 256, h (headOf k) (ix2 r (inHead k)) * Wo (ix2 k o) := by
  pointwise [outputV]
  exact Finset.sum_congr rfl fun k _ => congrArg (· * _) (column_head (fun n d => h n (ix2 r d)) k)

/-- A batch's rows of the result, element by element. -/
theorem batchV_apply (dw : BitVec 32) (X : Vec Ideal S2x256x512 .bf16) (Wq : Vec Ideal S512x256 .bf16) (Wo : Vec Ideal S256x512 .bf16)
    (GK GV : Vec Ideal S2x4x2048x64 .bf16) (i : Fin 2) (r : Fin 256) (o : Fin 512) :
    batchV dw X Wq Wo GK GV i (ix3 0 r o)
      = elemR (fun j => maskW dw (ix2 r j)) (fun e => X (ix3 i r e)) (fun e k => Wq (ix2 e k)) (fun n j d => GK (ix4 i n j d)) (fun n j d => GV (ix4 i n j d))
          (fun k => Wo (ix2 k o)) := by
  have hx (e : Fin 512) : xRow X i (ix3 0 r e) = X (ix3 i r e) := by
    unfold xRow; rw [row_emb]; exact congrArg X (funext fun a => by fin_cases a <;> rfl)
  have hg (G : Vec Ideal S2x4x2048x64 .bf16) (n : Fin 4) (j : Fin 2048) (d : Fin 64) : gHead G i n (ix4 0 0 j d) = G (ix4 i n j d) := by
    unfold gHead; rw [head_emb]; exact congrArg G (funext fun a => by fin_cases a <;> rfl)
  unfold batchV elemR
  refine (outputV_apply Wo (fun n => headV (maskW dw) (headQ n (queriesV Wq (xRow X i))) (gHead GK i n) (gHead GV i n)) r o).trans ?_
  simp only [headV_apply, headQ_apply, queriesV_apply, hx, hg]

end Cert.Gather

end
-- ==== Proof.Arrays.lean ====
/-
# What the arrays hold

The windows are whole arrays, so that what is staged is the arguments and what the result's array ends with is the rows
the device computed; a gathered buffer, element by element.
-/
module

public import proofs.«01_k».proof.Proof.Launch
public import proofs.«01_k».proof.Proof.Head

@[expose] public section

noncomputable section

namespace Cert.Gather

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-! ## The arguments as staged -/

/-- The staged rows of `x` are the device's argument. -/
theorem stgX_eq (c : Dev nD) : stgX m ρ c = m ((c : Thread nD τ).loc main_arg0) :=
  Memref.read_access_unit_zero (Elt F) main_arg0 (funext fun a => by fin_cases a <;> rfl) _ _
/-- The staged query projection is the device's argument. -/
theorem stgWq_eq (c : Dev nD) : stgWq m ρ c = m ((c : Thread nD τ).loc main_arg1) :=
  Memref.read_access_unit_zero (Elt F) main_arg1 (funext fun a => by fin_cases a <;> rfl) _ _
/-- The staged keys are the device's argument. -/
theorem stgK_eq (c : Dev nD) : stgK m ρ c = m ((c : Thread nD τ).loc main_arg2) :=
  Memref.read_access_unit_zero (Elt F) main_arg2 (funext fun a => by fin_cases a <;> rfl) _ _
/-- The staged values are the device's argument. -/
theorem stgV_eq (c : Dev nD) : stgV m ρ c = m ((c : Thread nD τ).loc main_arg3) :=
  Memref.read_access_unit_zero (Elt F) main_arg3 (funext fun a => by fin_cases a <;> rfl) _ _
/-- The staged output projection is the device's argument. -/
theorem stgWo_eq (c : Dev nD) : stgWo m ρ c = m ((c : Thread nD τ).loc main_arg4) :=
  Memref.read_access_unit_zero (Elt F) main_arg4 (funext fun a => by fin_cases a <;> rfl) _ _

/-! ## The result's array -/

/-- It ends with the rows the device computed. -/
theorem finalA_out (c : Dev nD) : finalA m ρ c 5 = outAt m ρ c := by
  have hread (f : Vec F S2x256x512 .f32) : (win0_5.blk (0 : Fin 1)).view.read (Elt F) f = f :=
    Memref.read_access_unit_zero (Elt F) main_v1 (funext fun a => by fin_cases a <;> rfl) _ f
  have h := (dats (F := F) m ρ 0 c).read_blk_arrAt 5 (outAt m ρ c) (fun t _ => by
    have ht : t = (0 : Fin 1) := @Subsingleton.elim (Fin 1) _ t 0
    subst ht
    exact (hread (outAt m ρ c)).symm) (0 : Fin 1) (flush0_5 _)
  exact (hread _).symm.trans (h.trans (hread _))

/-! ## A gathered buffer -/

/-- The device whose block holds a row. -/
abbrev devOf (j : Fin 2048) : Dev nD := ⟨j.val / 256, Nat.div_lt_of_lt_mul j.isLt⟩
/-- A row's place in that block. -/
abbrev atRow (j : Fin 2048) : Fin 256 := ⟨j.val % 256, Nat.mod_lt _ (by decide)⟩

/-- The block of keys that a device writes is its argument with row and head exchanged. -/
theorem own_apply_K (X : Vec F S2x256x4x64 .bf16) (i : Fin 2) (n : Fin 4) (r : Fin 256) (d : Fin 64) :
    k0_pay2 X (ix4 i n r d) = X (ix4 i r n d) := by
  pointwise [k0_pay2]

/-- The block of values that a device writes is its argument with row and head exchanged. -/
theorem own_apply_V (X : Vec F S2x256x4x64 .bf16) (i : Fin 2) (n : Fin 4) (r : Fin 256) (d : Fin 64) :
    k0_pay3 X (ix4 i n r d) = X (ix4 i r n d) := by
  pointwise [k0_pay3]

/-- The place of key `j` within its block. -/
theorem inBlk_ix4 (i : Fin 2) (n : Fin 4) (j : Fin 2048) (d : Fin 64) : inBlk (ix4 i n j d) = ix4 i n (atRow j) d :=
  funext fun a => by fin_cases a <;> rfl

/-- The gathered keys: key `j` is a row of the device that holds it. -/
theorem gath_K (i : Fin 2) (n : Fin 4) (j : Fin 2048) (d : Fin 64) :
    gath m ρ false (ix4 i n j d) = m ((devOf j : Thread nD τ).loc main_arg2) (ix4 i (atRow j) n d) := by
  unfold gath ownBlk
  rw [inBlk_ix4]
  exact (own_apply_K _ i n (atRow j) d).trans (congrFun (stgK_eq m ρ (devOf j)) _)

/-- The gathered values. -/
theorem gath_V (i : Fin 2) (n : Fin 4) (j : Fin 2048) (d : Fin 64) :
    gath m ρ true (ix4 i n j d) = m ((devOf j : Thread nD τ).loc main_arg3) (ix4 i (atRow j) n d) := by
  unfold gath ownBlk
  rw [inBlk_ix4]
  exact (own_apply_V _ i n (atRow j) d).trans (congrFun (stgV_eq m ρ (devOf j)) _)

end Cert.Gather

end
-- ==== Proof.RefRow.lean ====
/-
# The reference, element by element

The reference's text as a composition of steps, and each step at an index: the scores, the exponentials, the
probabilities and the weighted values are the same functions of one row as the kernel's. The reference's guard against
rows that keep no key is always on, for a row keeps the key of its own place.
-/
module

public import proofs.«01_k».proof.Proof.Head
public import proofs.«01_k».proof.Proof.Gen.ReferenceIdeal.Run

@[expose] public section

noncomputable section

namespace Cert.Gather.Ref

open Cert.ReferenceIdeal Cert.ReferenceIdeal.Gen Cert.ReferenceIdeal.Value
open Idealize.ShloMosaic Idealize.ShloMosaic.TcCoe
open scoped BigOperators

section AnyFloats
variable {F : FTy → Type} [FloatOps F]

/-- The mask of the whole array. -/
def maskT : IVec S2048x2048 1 :=
  ori (cmpi .sle (absi (subi (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))
      (broadcastInDim S2048x2048 ![] bcast_S_S2048x2048 (constantI S_ 32 128#32)))
    (ori (broadcastInDim S2048x2048 ![0, 1] bcast_S1x2048_S2048x2048_0_1 (cmpi .slt (broadcastInDim S1x2048 ![1] bcast_S2048_S1x2048_1 (iotaInDim S2048 32 0))
        (broadcastInDim S1x2048 ![] bcast_S_S1x2048 (constantI S_ 32 32#32))))
      (broadcastInDim S2048x2048 ![0, 1] bcast_S2048x1_S2048x2048_0_1 (cmpi .slt (broadcastInDim S2048x1 ![0] bcast_S2048_S2048x1_0 (iotaInDim S2048 32 0))
        (broadcastInDim S2048x1 ![] bcast_S_S2048x1 (constantI S_ 32 32#32)))))

/-- Whether a row keeps any key, laid out with the row's axis third. -/
def keepT : IVec S1x1x2048x1 1 :=
  broadcastInDim S1x1x2048x1 ![2] bcast_S2048_S1x1x2048x1_2 (Host.reduce IntOp.ori maskT (constantI S_ 1 0#1) reducesTo_S2048x2048_S2048_d1 h_S_)

/-- Every head's queries. -/
def queriesT (X : FVec F S2x2048x512 .bf16) (Wq : FVec F S512x256 .bf16) : FVec F S2x2048x4x64 .f32 :=
  shapeCast _ (Host.dotGeneral dot_S2x2048x512_S512x256_S2x2048x256_2_0_01_1_n_n none (extf .f32 X bitsLt_bf16_f32) (extf .f32 Wq bitsLt_bf16_f32)) shapeCasts_S2x2048x256_S2x2048x4x64

/-- The scores. -/
def scoresT (q : FVec F S2x2048x4x64 .f32) (K : FVec F S2x2048x4x64 .bf16) : FVec F S2x4x2048x2048 .f32 :=
  select (broadcastInDim S2x4x2048x2048 ![0, 1, 2, 3] bcast_S1x1x2048x2048_S2x4x2048x2048_0_1_2_3 (broadcastInDim S1x1x2048x2048 ![2, 3] bcast_S2048x2048_S1x1x2048x2048_2_3 maskT))
    (mulf (Host.dotGeneral dot_S2x2048x4x64_S2x2048x4x64_S2x4x2048x2048_3_3_1_1_02_02 none q (extf .f32 K bitsLt_bf16_f32))
      (broadcastInDim S2x4x2048x2048 ![] bcast_S_S2x4x2048x2048 (constant S_ .f32 0x3E000000#32)))
    (broadcastInDim S2x4x2048x2048 ![] bcast_S_S2x4x2048x2048 (constant S_ .f32 0xCE6E6B28#32))

/-- The exponentials of the scores, each row's greatest subtracted. -/
def expsT (s : FVec F S2x4x2048x2048 .f32) : FVec F S2x4x2048x2048 .f32 :=
  Host.exp (subf s (broadcastInDim S2x4x2048x2048 ![0, 1, 2, 3] bcast_S2x4x2048x1_S2x4x2048x2048_0_1_2_3 (broadcastInDim S2x4x2048x1 ![0, 1, 2] bcast_S2x4x2048_S2x4x2048x1_0_1_2
    (Host.reduce FloatOps.maximumf s (constant S_ .f32 0xFF800000#32) reducesTo_S2x4x2048x2048_S2x4x2048_d3 h_S_))))

/-- The weights: the exponentials over their row's sum, and zero in a row of which `keep` says that it keeps nothing. -/
def probsWith (keep : IVec S1x1x2048x1 1) (e : FVec F S2x4x2048x2048 .f32) : FVec F S2x4x2048x2048 .f32 :=
  select (broadcastInDim S2x4x2048x2048 ![0, 1, 2, 3] bcast_S1x1x2048x1_S2x4x2048x2048_0_1_2_3 keep)
    (Host.divf e (broadcastInDim S2x4x2048x2048 ![0, 1, 2, 3] bcast_S2x4x2048x1_S2x4x2048x2048_0_1_2_3
      (select (broadcastInDim S2x4x2048x1 ![0, 1, 2, 3] bcast_S1x1x2048x1_S2x4x2048x1_0_1_2_3 keep)
        (broadcastInDim S2x4x2048x1 ![0, 1, 2] bcast_S2x4x2048_S2x4x2048x1_0_1_2 (Host.reduceAdd e (constant S_ .f32 0x00000000#32) reducesTo_S2x4x2048x2048_S2x4x2048_d3 h_S_))
        (broadcastInDim S2x4x2048x1 ![] bcast_S_S2x4x2048x1 (constant S_ .f32 0x3F800000#32)))))
    (broadcastInDim S2x4x2048x2048 ![] bcast_S_S2x4x2048x2048 (constant S_ .f32 0x00000000#32))

/-- The weights. -/
def probsT (e : FVec F S2x4x2048x2048 .f32) : FVec F S2x4x2048x2048 .f32 := probsWith keepT e

/-- The weighted sums of the values, heads side by side. -/
def ctxT (p : FVec F S2x4x2048x2048 .f32) (V : FVec F S2x2048x4x64 .bf16) : FVec F S2x2048x256 .f32 :=
  shapeCast _ (transpose S2x2048x4x64 [0, 3, 1, 2]
    (Host.dotGeneral dot_S2x2048x4x64_S2x4x2048x2048_S2x4x64x2048_1_3_3_2_02_01 none (extf .f32 V bitsLt_bf16_f32) p) transposes_S2x4x64x2048_S2x2048x4x64_0_3_1_2)
    shapeCasts_S2x2048x4x64_S2x2048x256

/-- The whole result. -/
def outT (X : FVec F S2x2048x512 .bf16) (Wq : FVec F S512x256 .bf16) (K V : FVec F S2x2048x4x64 .bf16) (Wo : FVec F S256x512 .bf16) : FVec F S2x2048x512 .f32 :=
  Host.dotGeneral dot_S2x2048x256_S256x512_S2x2048x512_2_0_01_1_n_n none (ctxT (probsT (expsT (scoresT (queriesT X Wq) K))) V) (extf .f32 Wo bitsLt_bf16_f32)

/-- The reference's result is the composition of its steps. -/
theorem res_eq (m : (ℓ : Loc nD τ sig) → Buf (Elt F) ℓ) (c : Dev nD) :
    res_out0 m c = outT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end AnyFloats

/-! ## Read at an index -/

/-- Whether row `i` keeps key `j`. -/
def keepAt (i j : Fin 2048) : BitVec 1 := maskT (ix2 i j)

/-- The reference's queries at an element. -/
theorem queriesT_apply (X : FVec Ideal S2x2048x512 .bf16) (Wq : FVec Ideal S512x256 .bf16) (b : Fin 2) (i : Fin 2048) (n : Fin 4) (d : Fin 64) :
    queriesT X Wq (ix4 b i n d) = ∑ e : Fin 512, X (ix3 b i e) * Wq (ix2 e (colOf n d)) := by
  pointwise [queriesT]

/-- The reference's scores at a row and a key are the row's score of that key. -/
theorem scoresT_apply (q : FVec Ideal S2x2048x4x64 .f32) (K : FVec Ideal S2x2048x4x64 .bf16) (b : Fin 2) (n : Fin 4) (i j : Fin 2048) :
    scoresT q K (ix4 b n i j) = scoreR (keepAt i) (fun d => q (ix4 b i n d)) (fun j d => K (ix4 b j n d)) j := by
  pointwise [scoresT, scoreR, keepAt]

/-- The reference's exponentials, row by row. -/
theorem expsT_apply (s : FVec Ideal S2x4x2048x2048 .f32) (b : Fin 2) (n : Fin 4) (i j : Fin 2048) :
    expsT s (ix4 b n i j) = expR (fun j => s (ix4 b n i j)) j := by
  pointwise [expsT, expR]

/-- A disjunction over a finite set holds once one of its terms does. -/
theorem fold_ori_of_mem {α : Type} [DecidableEq α] (f : α → BitVec 1) (t : Finset α) (a : α) (ha : a ∈ t) (h : f a = 1#1) : Finset.fold IntOp.ori 0#1 f t = 1#1 := by
  have one_or (x : BitVec 1) : IntOp.ori 1#1 x = 1#1 := by revert x; decide
  rw [← Finset.insert_erase ha, Finset.fold_insert (Finset.notMem_erase a t), h]
  exact one_or _

/-- The test of the mask: the keys within 128 of the row, the first 32 keys, and every key in the first 32 rows. -/
theorem keepAt_eq (i j : Fin 2048) :
    keepAt i j = IntOp.ori (IntOp.cmpi .sle (IntOp.absi (IntOp.subi (BitVec.ofNat 32 i.val) (BitVec.ofNat 32 j.val))) 128#32)
      (IntOp.ori (IntOp.cmpi .slt (BitVec.ofNat 32 j.val) 32#32) (IntOp.cmpi .slt (BitVec.ofNat 32 i.val) 32#32)) := by
  pointwise [keepAt, maskT]

/-- Every row keeps the first key. -/
theorem keepAt_zero (i : Fin 2048) : keepAt i 0 = 1#1 := by
  have h0 : IntOp.cmpi .slt (BitVec.ofNat 32 (0 : Fin 2048).val) 32#32 = 1#1 := by decide
  have or_one (x y : BitVec 1) : IntOp.ori x (IntOp.ori 1#1 y) = 1#1 := by revert x y; decide
  rw [keepAt_eq, h0]
  exact or_one _ _

/-- So every row keeps some key. -/
theorem keepT_eq (i : Fin 2048) : keepT (ix4 0 0 i 0) = 1#1 := by
  pointwise [keepT]
  exact fold_ori_of_mem _ _ 0 (Finset.mem_univ _) (keepAt_zero i)

/-- The reference's probabilities at an element, for any guard of the rows. -/
theorem probsWith_apply (k : IVec S1x1x2048x1 1) (e : FVec Ideal S2x4x2048x2048 .f32) (b : Fin 2) (n : Fin 4) (i j : Fin 2048) :
    probsWith k e (ix4 b n i j) = Scalar.select (k (ix4 0 0 i 0))
      (Ideal.div (e (ix4 b n i j)) (Scalar.select (k (ix4 0 0 i 0)) (∑ k : Fin 2048, e (ix4 b n i k)) (Ideal.ofBits .f32 0x3F800000#32)))
      (Ideal.ofBits .f32 0x00000000#32) := by
  pointwise [probsWith]

/-- The reference's probabilities at an element, with its own guard of the rows. -/
theorem probsT_select (e : FVec Ideal S2x4x2048x2048 .f32) (b : Fin 2) (n : Fin 4) (i j : Fin 2048) :
    probsT e (ix4 b n i j) = Scalar.select (keepT (ix4 0 0 i 0))
      (Ideal.div (e (ix4 b n i j)) (Scalar.select (keepT (ix4 0 0 i 0)) (∑ k : Fin 2048, e (ix4 b n i k)) (Ideal.ofBits .f32 0x3F800000#32)))
      (Ideal.ofBits .f32 0x00000000#32) := by
  unfold probsT
  exact probsWith_apply _ e b n i j

/-- Every row keeps a key, so the guard is always on: the reference's probabilities, row by row. -/
theorem probsT_apply (e : FVec Ideal S2x4x2048x2048 .f32) (b : Fin 2) (n : Fin 4) (i j : Fin 2048) :
    probsT e (ix4 b n i j) = probR (fun j => e (ix4 b n i j)) j := by
  rw [probsT_select, keepT_eq]
  rfl

/-- The reference's weighted sum of the values, row by row. -/
theorem ctxT_apply (p : FVec Ideal S2x4x2048x2048 .f32) (V : FVec Ideal S2x2048x4x64 .bf16) (b : Fin 2) (i : Fin 2048) (k : Fin 256) :
    ctxT p V (ix3 b i k) = ctxR (fun j => p (ix4 b (headOf k) i j)) (fun j d => V (ix4 b j (headOf k) d)) (inHead k) := by
  pointwise [ctxT, ctxR]
  exact Finset.sum_congr rfl fun x _ => mul_comm _ _

/-- The reference's result at an element, from its row of `x` and all keys and values of the batch. -/
theorem outT_apply (X : FVec Ideal S2x2048x512 .bf16) (Wq : FVec Ideal S512x256 .bf16) (K V : FVec Ideal S2x2048x4x64 .bf16) (Wo : FVec Ideal S256x512 .bf16)
    (b : Fin 2) (i : Fin 2048) (o : Fin 512) :
    outT X Wq K V Wo (ix3 b i o) = elemR (keepAt i) (fun e => X (ix3 b i e)) (fun e k => Wq (ix2 e k)) (fun n j d => K (ix4 b j n d)) (fun n j d => V (ix4 b j n d))
      (fun k => Wo (ix2 k o)) := by
  unfold elemR attendR
  pointwise [outT]
  simp only [ctxT_apply, probsT_apply, expsT_apply, scoresT_apply, queriesT_apply]

end Cert.Gather.Ref

end
-- ==== Proof.Equation.lean ====
/-
# The equation

Each device's rows are its block of the reference's array: the mask of a device's row is the reference's mask of the row
it is in the whole array, and the gathered keys and values are the whole ones.
-/
module

public import proofs.«01_k».proof.Proof.Arrays
public import proofs.«01_k».proof.Proof.RefRow

@[expose] public section

noncomputable section

namespace Cert.Gather

open Cert.KernelIdeal Cert.KernelIdeal.Gen
open Idealize.ShloMosaic
open Idealize.ShloMosaic.TcCoe
open Idealize.SL.Sem

/-! ## The mask -/

/-- A device's row in the whole array. -/
abbrev rowOf (c : Dev nD) (r : Fin 256) : Fin 2048 := ⟨c.val * 256 + r.val, by have h : c.val < 8 := c.isLt; omega⟩

/-- A device's number along the ring is its own number. -/
theorem ringWord_eq (c : Dev nD) : ringWord c = BitVec.ofNat 32 c.val := by
  revert c; decide

/-- The mask of a device's row is the mask of that row of the whole array. -/
theorem mask_row (c : Dev nD) (r : Fin 256) (j : Fin 2048) : maskW (ringWord c) (ix2 r j) = Ref.keepAt (rowOf c r) j := by
  have or_assoc (x y z : BitVec 1) : IntOp.ori (IntOp.ori x y) z = IntOp.ori x (IntOp.ori y z) := by revert x y z; decide
  rw [Ref.keepAt_eq, ringWord_eq]
  pointwise [maskW, k0_pay7, k0_pay6, k0_pay5, k0_pay4]
  have hrow : IntOp.addi (Scalar.muli (BitVec.ofNat 32 c.val) 256#32) (BitVec.ofNat 32 r.val) = BitVec.ofNat 32 (c.val * 256 + r.val) := by
    rw [BitVec.ofNat_add, BitVec.ofNat_mul]
    rfl
  rw [hrow]
  exact or_assoc _ _ _

/-! ## The rows -/

section Rows
variable (m : (ℓ : Loc nD τ sig) → Buf (Elt Ideal) ℓ) (ρ : Dev nD → PrngReg)

/-- The rows a device computes, element by element. -/
theorem outAt_apply (c : Dev nD) (i : Fin 2) (r : Fin 256) (o : Fin 512) :
    outAt m ρ c (ix3 i r o)
      = elemR (Ref.keepAt (rowOf c r)) (fun e => m ((c : Thread nD τ).loc main_arg0) (ix3 i r e)) (fun e k => m ((c : Thread nD τ).loc main_arg1) (ix2 e k))
          (fun n j d => m ((devOf j : Thread nD τ).loc main_arg2) (ix4 i (atRow j) n d)) (fun n j d => m ((devOf j : Thread nD τ).loc main_arg3) (ix4 i (atRow j) n d))
          (fun k => m ((c : Thread nD τ).loc main_arg4) (ix2 k o)) := by
  have hin : inRow (ix3 i r o) = ix3 0 r o := funext fun a => by fin_cases a <;> rfl
  have hb : outAt m ρ c (ix3 i r o)
      = batchV (ringWord c) (stgX m ρ c) (stgWq m ρ c) (stgWo m ρ c) (gath m ρ false) (gath m ρ true) i (ix3 0 r o) := by
    unfold outAt outV
    rw [out0_eq, out1_eq]
    match i with
    | ⟨0, _⟩ => rw [both_zero _ _ _ rfl, hin]; rfl
    | ⟨1, _⟩ => rw [both_one _ _ _ (show ¬(1 : ℕ) = 0 from Nat.one_ne_zero), hin]; rfl
  rw [hb, batchV_apply]
  simp only [mask_row, gath_K, gath_V, stgX_eq, stgWq_eq, stgWo_eq]

/-- A device's rows are its block of the reference's array. -/
theorem outAt_eq (X : FVec Ideal Cert.ReferenceIdeal.S2x2048x512 .bf16) (Wq : FVec Ideal Cert.ReferenceIdeal.S512x256 .bf16) (K V : FVec Ideal Cert.ReferenceIdeal.S2x2048x4x64 .bf16)
    (Wo : FVec Ideal Cert.ReferenceIdeal.S256x512 .bf16)
    (hX : ∀ c : Dev nD, m ((c : Thread nD τ).loc main_arg0) = Layout.block ⟨3, ![2, 256, 512]⟩ ⟨3, ![2, 2048, 512]⟩ 1 8 c X)
    (hWq : ∀ c : Dev nD, m ((c : Thread nD τ).loc main_arg1) = Wq)
    (hK : ∀ c : Dev nD, m ((c : Thread nD τ).loc main_arg2) = Layout.block ⟨4, ![2, 256, 4, 64]⟩ ⟨4, ![2, 2048, 4, 64]⟩ 1 8 c K)
    (hV : ∀ c : Dev nD, m ((c : Thread nD τ).loc main_arg3) = Layout.block ⟨4, ![2, 256, 4, 64]⟩ ⟨4, ![2, 2048, 4, 64]⟩ 1 8 c V)
    (hWo : ∀ c : Dev nD, m ((c : Thread nD τ).loc main_arg4) = Wo) (c : Dev nD) :
    outAt m ρ c = Layout.block ⟨3, ![2, 256, 512]⟩ ⟨3, ![2, 2048, 512]⟩ 1 8 c (Ref.outT X Wq K V Wo) := by
  have block3 (Y : FVec Ideal Cert.ReferenceIdeal.S2x2048x512 .bf16) (i : Fin 2) (r : Fin 256) (e : Fin 512) :
      Layout.block ⟨3, ![2, 256, 512]⟩ ⟨3, ![2, 2048, 512]⟩ 1 8 c Y (by decide) (ix3 i r e) = Y (ix3 i (rowOf c r) e) :=
    congrArg Y (funext fun a => by fin_cases a <;> rfl)
  have block4 (Y : FVec Ideal Cert.ReferenceIdeal.S2x2048x4x64 .bf16) (i : Fin 2) (j : Fin 2048) (n : Fin 4) (d : Fin 64) :
      Layout.block ⟨4, ![2, 256, 4, 64]⟩ ⟨4, ![2, 2048, 4, 64]⟩ 1 8 (devOf j) Y (by decide) (ix4 i (atRow j) n d) = Y (ix4 i j n d) := by
    refine congrArg Y (funext fun a => ?_)
    fin_cases a
    · rfl
    · exact Fin.ext (Nat.div_add_mod' j.val 256)
    · rfl
    · rfl
  funext y
  obtain ⟨i, r, o, rfl⟩ : ∃ (i : Fin 2) (r : Fin 256) (o : Fin 512), y = ix3 i r o := ⟨y 0, y 1, y 2, funext fun a => by fin_cases a <;> rfl⟩
  rw [outAt_apply, hX, hWq, hWo]
  simp only [hK, hV, block3, block4]
  exact (Ref.outT_apply X Wq K V Wo i (rowOf c r) o).symm

end Rows

end Cert.Gather

end
-- ==== Proof.lean ====
/-
# The claims

The kernel's run is proved once, for any float values (`Proof/Launch.lean`). Its frame gives both kernel frames: the
program with machine floats and the one over the extended reals have the same text. The value claim puts the result of
that run (`Proof/Arrays.lean`) beside the reference's (`Proof/RefRow.lean`), by the equation of `Proof/Equation.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Idealize.ShloMosaic.TcCoe

/-- What the kernel's run leaves of the arguments: what they held. -/
theorem args_kept {F : FTy → Type} [FloatOps F] (m : (ℓ : Loc Cert.KernelIdeal.nD Cert.KernelIdeal.τ Cert.KernelIdeal.sig) → Buf (Elt F) ℓ) (ρ : Dev Cert.KernelIdeal.nD → PrngReg)
    {r : PUnit × MemSt Cert.KernelIdeal.nD Cert.KernelIdeal.τ Cert.KernelIdeal.sig (Elt F)} (h : Cert.Gather.QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  have kept (w) (hw) := (h c w).trans (Cert.Gather.finalA_in m ρ c w hw)
  ⟨kept 0 rfl, kept 1 rfl, kept 2 rfl, kept 3 rfl, kept 4 rfl⟩

/-- The kernel's frame, for any floats. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨args_kept m ρ h.1, h.2⟩) (Cert.Gather.run_main (F := F) m ρ)

/-- The kernel's frame, on extended reals. -/
theorem frame_kernelIdeal : Cert.quiescent_KernelIdeal (hKernelIdeal := Cert.KernelIdeal.Gen.facts) := fun m ρ _ => frame_any (F := Ideal) m ρ

section OneText
attribute [local instance] Cert.Kernel.Gen.facts Cert.KernelIdeal.Gen.facts

/-- The kernel and its reading on extended reals are one text: at the same floats the one runs as the other does. -/
theorem same_text {F : FTy → Type} [FloatOps F] (m : (ℓ : Loc Cert.KernelIdeal.nD Cert.KernelIdeal.τ Cert.KernelIdeal.sig) → Buf (Elt F) ℓ) (ρ : Dev Cert.KernelIdeal.nD → PrngReg)
    (Q : PUnit × MemSt Cert.KernelIdeal.nD Cert.KernelIdeal.τ Cert.KernelIdeal.sig (Elt F) → Prop) :
    θ_run (Cert.KernelIdeal.defs (F := F)) (onTc (τ := Cert.KernelIdeal.τ) (Cert.KernelIdeal.main (F := F))) ⟨m, fun _ => 0, ρ⟩ Q
      = θ_run (Cert.Kernel.defs (F := F)) (onTc (τ := Cert.Kernel.τ) (Cert.Kernel.main (F := F))) ⟨m, fun _ => 0, ρ⟩ Q := by chain_rfl

end OneText

/-- The kernel's frame, on the machine's floats. -/
theorem frame_kernel : Cert.quiescent_Kernel (hKernel := Cert.Kernel.Gen.facts) := fun m ρ _ =>
  (same_text (F := Bits) m ρ _).mp (frame_any (F := Bits) m ρ)

/-- The reference's frame; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel computes the reference: each device's rows are its block of the reference's array. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨Cert.ReferenceIdeal.Value.res_out0 m' 0, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c 5).trans ?_, args_kept m ρ h.1 c⟩) (Cert.Gather.run_main (F := Ideal) m ρ)
  rw [Cert.Gather.Ref.res_eq]
  exact (Cert.Gather.finalA_out m ρ c).trans (Cert.Gather.outAt_eq m ρ _ _ _ _ _ (fun c => (hagree c).1) (fun c => (hagree c).2.1)
    (fun c => (hagree c).2.2.1) (fun c => (hagree c).2.2.2.1) (fun c => (hagree c).2.2.2.2) c)

/-- Everything claimed. -/
theorem claim : Cert.Claim :=
  ⟨Cert.Kernel.Gen.facts, Cert.KernelIdeal.Gen.facts, Cert.ReferenceIdeal.Gen.facts, frame_kernel, frame_kernelIdeal, frame_reference, trivial, algebraic⟩

end Cert.Proof

end
